-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S30 : Shape := ⟨1, ![30]⟩
abbrev S_ : Shape := ⟨0, ![]⟩
abbrev S1 : Shape := ⟨1, ![1]⟩
abbrev S160x256 : Shape := ⟨2, ![160, 256]⟩
abbrev S192x256 : Shape := ⟨2, ![192, 256]⟩
abbrev S80x256 : Shape := ⟨2, ![80, 256]⟩
abbrev S96x256 : Shape := ⟨2, ![96, 256]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  (ofTc nBuf bufTy 1 62 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_25 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_24 : BitVec 32 := 1#32
  let v60 : BitVec 32 := Scalar.muli v45 c1_i32_24
  let v61 : BitVec 32 := Scalar.addi c0_i32_25 v60
  v61.toNat
def k0_dev2 (d0 : Dev nD) : Nat :=
  let c0_i32_28 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_27 : BitVec 32 := 1#32
  let v62 : BitVec 32 := Scalar.muli v52 c1_i32_27
  let v63 : BitVec 32 := Scalar.addi c0_i32_28 v62
  v63.toNat
def k0_dev3 (d0 : Dev nD) : Nat :=
  let c0_i32_31 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_30 : BitVec 32 := 1#32
  let v64 : BitVec 32 := Scalar.muli v58 c1_i32_30
  let v65 : BitVec 32 := Scalar.addi c0_i32_31 v64
  v65.toNat
def k0_off1 (d0 : Dev nD) : Fin 2 → Nat :=
  let c384_i32_40 : BitVec 32 := 384#32
  let c1_i32_38 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v78 : BitVec 32 := Scalar.subi c1_i32_38 v37
  let c160_i32_39 : BitVec 32 := 160#32
  let v79 : BitVec 32 := Scalar.muli v78 c160_i32_39
  let v80 : BitVec 32 := Scalar.addi c384_i32_40 v79
  let c0_i32_56 : BitVec 32 := 0#32
  ![v80.toNat, 0]
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_52 : BitVec 32 := 1#32
  let v96 : BitVec 32 := Scalar.muli v52 c1_i32_52
  let v97 : BitVec 32 := Scalar.addi c0_i32_53 v96
  v97.toNat
def k0_off2 (d0 : Dev nD) : Fin 2 → Nat :=
  let c704_i32_46 : BitVec 32 := 704#32
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v88 : BitVec 32 := Scalar.subi c1_i32_44 v19
  let c160_i32_45 : BitVec 32 := 160#32
  let v89 : BitVec 32 := Scalar.muli v88 c160_i32_45
  let v90 : BitVec 32 := Scalar.addi c704_i32_46 v89
  let c0_i32_63 : BitVec 32 := 0#32
  ![v90.toNat, 0]
def k0_dev5 (d0 : Dev nD) : Nat :=
  let c0_i32_60 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_59 : BitVec 32 := 1#32
  let v104 : BitVec 32 := Scalar.muli v58 c1_i32_59
  let v105 : BitVec 32 := Scalar.addi c0_i32_60 v104
  v105.toNat
def k0_off3 (d0 : Dev nD) : Fin 2 → Nat :=
  let c0_i32_35 : BitVec 32 := 0#32
  let c1_i32_33 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let v68 : BitVec 32 := Scalar.subi c1_i32_33 v39
  let c192_i32_34 : BitVec 32 := 192#32
  let v69 : BitVec 32 := Scalar.muli v68 c192_i32_34
  let v70 : BitVec 32 := Scalar.addi c0_i32_35 v69
  let c0_i32_70 : BitVec 32 := 0#32
  ![v70.toNat, 0]
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_66 : BitVec 32 := 1#32
  let v112 : BitVec 32 := Scalar.muli v45 c1_i32_66
  let v113 : BitVec 32 := Scalar.addi c0_i32_67 v112
  v113.toNat
def k0_off4 (d0 : Dev nD) : Fin 2 → Nat :=
  let c384_i32_40 : BitVec 32 := 384#32
  let c1_i32_38 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v78 : BitVec 32 := Scalar.subi c1_i32_38 v37
  let c160_i32_39 : BitVec 32 := 160#32
  let v79 : BitVec 32 := Scalar.muli v78 c160_i32_39
  let v80 : BitVec 32 := Scalar.addi c384_i32_40 v79
  let c256_i32_76 : BitVec 32 := 256#32
  ![v80.toNat, 256]
def k0_dev7 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_73 : BitVec 32 := 1#32
  let v120 : BitVec 32 := Scalar.muli v52 c1_i32_73
  let v121 : BitVec 32 := Scalar.addi c0_i32_74 v120
  v121.toNat
def k0_off5 (d0 : Dev nD) : Fin 2 → Nat :=
  let c704_i32_46 : BitVec 32 := 704#32
  let c1_i32_44 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v88 : BitVec 32 := Scalar.subi c1_i32_44 v19
  let c160_i32_45 : BitVec 32 := 160#32
  let v89 : BitVec 32 := Scalar.muli v88 c160_i32_45
  let v90 : BitVec 32 := Scalar.addi c704_i32_46 v89
  let c256_i32_82 : BitVec 32 := 256#32
  ![v90.toNat, 256]
def k0_dev8 (d0 : Dev nD) : Nat :=
  let c0_i32_79 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_78 : BitVec 32 := 1#32
  let v128 : BitVec 32 := Scalar.muli v58 c1_i32_78
  let v129 : BitVec 32 := Scalar.addi c0_i32_79 v128
  v129.toNat
def k0_off6 (d0 : Dev nD) : Fin 2 → Nat :=
  let c0_i32_35 : BitVec 32 := 0#32
  let c1_i32_33 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let v68 : BitVec 32 := Scalar.subi c1_i32_33 v39
  let c192_i32_34 : BitVec 32 := 192#32
  let v69 : BitVec 32 := Scalar.muli v68 c192_i32_34
  let v70 : BitVec 32 := Scalar.addi c0_i32_35 v69
  let c256_i32_89 : BitVec 32 := 256#32
  ![v70.toNat, 256]
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_85 : BitVec 32 := 1#32
  let v136 : BitVec 32 := Scalar.muli v45 c1_i32_85
  let v137 : BitVec 32 := Scalar.addi c0_i32_86 v136
  v137.toNat
def k0_off7 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let v150 : Index := Scalar.indexCast v77
  let c0 : Index := 0#32
  ![v150.toNat, 0]
def k0_off8 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let c1_i32_41 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_41 v19
  let c80_i32_42 : BitVec 32 := 80#32
  let v84 : BitVec 32 := Scalar.muli v83 c80_i32_42
  let v85 : BitVec 32 := Scalar.addi v77 v84
  let c0_i32_104 : BitVec 32 := 0#32
  ![v85.toNat, 0]
def k0_dev10 (d0 : Dev nD) : Nat :=
  let c0_i32_102 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_101 : BitVec 32 := 1#32
  let v157 : BitVec 32 := Scalar.muli v58 c1_i32_101
  let v158 : BitVec 32 := Scalar.addi c0_i32_102 v157
  v158.toNat
def k0_off9 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let v171 : Index := Scalar.indexCast v87
  let c0_112 : Index := 0#32
  ![v171.toNat, 0]
def k0_off10 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let c1_i32_48 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let v93 : BitVec 32 := Scalar.subi c1_i32_48 v39
  let c80_i32_49 : BitVec 32 := 80#32
  let v94 : BitVec 32 := Scalar.muli v93 c80_i32_49
  let v95 : BitVec 32 := Scalar.addi v87 v94
  let c0_i32_119 : BitVec 32 := 0#32
  ![v95.toNat, 0]
def k0_dev11 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_116 : BitVec 32 := 1#32
  let v178 : BitVec 32 := Scalar.muli v45 c1_i32_116
  let v179 : BitVec 32 := Scalar.addi c0_i32_117 v178
  v179.toNat
def k0_off11 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let v192 : Index := Scalar.indexCast v67
  let c0_127 : Index := 0#32
  ![v192.toNat, 0]
def k0_off12 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let c1_i32_36 : BitVec 32 := 1#32
  let v73 : BitVec 32 := Scalar.subi c1_i32_36 v37
  let c96_i32_37 : BitVec 32 := 96#32
  let v74 : BitVec 32 := Scalar.muli v73 c96_i32_37
  let v75 : BitVec 32 := Scalar.addi v67 v74
  let c0_i32_136 : BitVec 32 := 0#32
  ![v75.toNat, 0]
def k0_dev12 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_132 : BitVec 32 := 1#32
  let v199 : BitVec 32 := Scalar.muli v52 c1_i32_132
  let v200 : BitVec 32 := Scalar.addi c0_i32_133 v199
  v200.toNat
def k0_off13 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let v213 : Index := Scalar.indexCast v77
  let c256 : Index := 256#32
  ![v213.toNat, 256]
def k0_off14 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let c1_i32_41 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v83 : BitVec 32 := Scalar.subi c1_i32_41 v19
  let c80_i32_42 : BitVec 32 := 80#32
  let v84 : BitVec 32 := Scalar.muli v83 c80_i32_42
  let v85 : BitVec 32 := Scalar.addi v77 v84
  let c256_i32_152 : BitVec 32 := 256#32
  ![v85.toNat, 256]
def k0_dev13 (d0 : Dev nD) : Nat :=
  let c0_i32_149 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_148 : BitVec 32 := 1#32
  let v220 : BitVec 32 := Scalar.muli v58 c1_i32_148
  let v221 : BitVec 32 := Scalar.addi c0_i32_149 v220
  v221.toNat
def k0_off15 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let v234 : Index := Scalar.indexCast v87
  let c256_160 : Index := 256#32
  ![v234.toNat, 256]
def k0_off16 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let c1_i32_48 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let v93 : BitVec 32 := Scalar.subi c1_i32_48 v39
  let c80_i32_49 : BitVec 32 := 80#32
  let v94 : BitVec 32 := Scalar.muli v93 c80_i32_49
  let v95 : BitVec 32 := Scalar.addi v87 v94
  let c256_i32_169 : BitVec 32 := 256#32
  ![v95.toNat, 256]
def k0_dev14 (d0 : Dev nD) : Nat :=
  let c0_i32_166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_165 : BitVec 32 := 1#32
  let v241 : BitVec 32 := Scalar.muli v45 c1_i32_165
  let v242 : BitVec 32 := Scalar.addi c0_i32_166 v241
  v242.toNat
def k0_off17 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let v255 : Index := Scalar.indexCast v67
  let c256_177 : Index := 256#32
  ![v255.toNat, 256]
def k0_off18 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let c1_i32_36 : BitVec 32 := 1#32
  let v73 : BitVec 32 := Scalar.subi c1_i32_36 v37
  let c96_i32_37 : BitVec 32 := 96#32
  let v74 : BitVec 32 := Scalar.muli v73 c96_i32_37
  let v75 : BitVec 32 := Scalar.addi v67 v74
  let c256_i32_186 : BitVec 32 := 256#32
  ![v75.toNat, 256]
def k0_dev15 (d0 : Dev nD) : Nat :=
  let c0_i32_183 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_182 : BitVec 32 := 1#32
  let v262 : BitVec 32 := Scalar.muli v52 c1_i32_182
  let v263 : BitVec 32 := Scalar.addi c0_i32_183 v262
  v263.toNat
def k0_off19 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c80_i32 : BitVec 32 := 80#32
  let v81 : BitVec 32 := Scalar.muli v19 c80_i32
  let v82 : BitVec 32 := Scalar.addi v77 v81
  let v276 : Index := Scalar.indexCast v82
  let c0_194 : Index := 0#32
  ![v276.toNat, 0]
def k0_off20 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c80_i32 : BitVec 32 := 80#32
  let v81 : BitVec 32 := Scalar.muli v19 c80_i32
  let v82 : BitVec 32 := Scalar.addi v77 v81
  let c0_i32_201 : BitVec 32 := 0#32
  ![v82.toNat, 0]
def k0_dev16 (d0 : Dev nD) : Nat :=
  let c0_i32_199 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_198 : BitVec 32 := 1#32
  let v283 : BitVec 32 := Scalar.muli v45 c1_i32_198
  let v284 : BitVec 32 := Scalar.addi c0_i32_199 v283
  v284.toNat
def k0_off21 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c80_i32_47 : BitVec 32 := 80#32
  let v91 : BitVec 32 := Scalar.muli v39 c80_i32_47
  let v92 : BitVec 32 := Scalar.addi v87 v91
  let v297 : Index := Scalar.indexCast v92
  let c0_209 : Index := 0#32
  ![v297.toNat, 0]
def k0_off22 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c80_i32_47 : BitVec 32 := 80#32
  let v91 : BitVec 32 := Scalar.muli v39 c80_i32_47
  let v92 : BitVec 32 := Scalar.addi v87 v91
  let c0_i32_216 : BitVec 32 := 0#32
  ![v92.toNat, 0]
def k0_dev17 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_213 : BitVec 32 := 1#32
  let v304 : BitVec 32 := Scalar.muli v52 c1_i32_213
  let v305 : BitVec 32 := Scalar.addi c0_i32_214 v304
  v305.toNat
def k0_off23 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let c96_i32 : BitVec 32 := 96#32
  let v71 : BitVec 32 := Scalar.muli v37 c96_i32
  let v72 : BitVec 32 := Scalar.addi v67 v71
  let v318 : Index := Scalar.indexCast v72
  let c0_224 : Index := 0#32
  ![v318.toNat, 0]
def k0_off24 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let c96_i32 : BitVec 32 := 96#32
  let v71 : BitVec 32 := Scalar.muli v37 c96_i32
  let v72 : BitVec 32 := Scalar.addi v67 v71
  let c0_i32_231 : BitVec 32 := 0#32
  ![v72.toNat, 0]
def k0_dev18 (d0 : Dev nD) : Nat :=
  let c0_i32_229 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_228 : BitVec 32 := 1#32
  let v325 : BitVec 32 := Scalar.muli v58 c1_i32_228
  let v326 : BitVec 32 := Scalar.addi c0_i32_229 v325
  v326.toNat
def k0_off25 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c80_i32 : BitVec 32 := 80#32
  let v81 : BitVec 32 := Scalar.muli v19 c80_i32
  let v82 : BitVec 32 := Scalar.addi v77 v81
  let v339 : Index := Scalar.indexCast v82
  let c256_239 : Index := 256#32
  ![v339.toNat, 256]
def k0_off26 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c80_i32 : BitVec 32 := 80#32
  let v81 : BitVec 32 := Scalar.muli v19 c80_i32
  let v82 : BitVec 32 := Scalar.addi v77 v81
  let c256_i32_248 : BitVec 32 := 256#32
  ![v82.toNat, 256]
def k0_dev19 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_244 : BitVec 32 := 1#32
  let v346 : BitVec 32 := Scalar.muli v45 c1_i32_244
  let v347 : BitVec 32 := Scalar.addi c0_i32_245 v346
  v347.toNat
def k0_off27 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c80_i32_47 : BitVec 32 := 80#32
  let v91 : BitVec 32 := Scalar.muli v39 c80_i32_47
  let v92 : BitVec 32 := Scalar.addi v87 v91
  let v360 : Index := Scalar.indexCast v92
  let c256_256 : Index := 256#32
  ![v360.toNat, 256]
def k0_off28 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c80_i32_47 : BitVec 32 := 80#32
  let v91 : BitVec 32 := Scalar.muli v39 c80_i32_47
  let v92 : BitVec 32 := Scalar.addi v87 v91
  let c256_i32_265 : BitVec 32 := 256#32
  ![v92.toNat, 256]
def k0_dev20 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_261 : BitVec 32 := 1#32
  let v367 : BitVec 32 := Scalar.muli v52 c1_i32_261
  let v368 : BitVec 32 := Scalar.addi c0_i32_262 v367
  v368.toNat
def k0_off29 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let c96_i32 : BitVec 32 := 96#32
  let v71 : BitVec 32 := Scalar.muli v37 c96_i32
  let v72 : BitVec 32 := Scalar.addi v67 v71
  let v381 : Index := Scalar.indexCast v72
  let c256_273 : Index := 256#32
  ![v381.toNat, 256]
def k0_off30 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let c96_i32 : BitVec 32 := 96#32
  let v71 : BitVec 32 := Scalar.muli v37 c96_i32
  let v72 : BitVec 32 := Scalar.addi v67 v71
  let c256_i32_282 : BitVec 32 := 256#32
  ![v72.toNat, 256]
def k0_dev21 (d0 : Dev nD) : Nat :=
  let c0_i32_279 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_278 : BitVec 32 := 1#32
  let v388 : BitVec 32 := Scalar.muli v58 c1_i32_278
  let v389 : BitVec 32 := Scalar.addi c0_i32_279 v388
  v389.toNat
def k0_dev22 (d0 : Dev nD) : Nat :=
  let c0_i32_301 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_300 : BitVec 32 := 1#32
  let v413 : BitVec 32 := Scalar.muli v58 c1_i32_300
  let v414 : BitVec 32 := Scalar.addi c0_i32_301 v413
  v414.toNat
def k0_dev23 (d0 : Dev nD) : Nat :=
  let c0_i32_322 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_321 : BitVec 32 := 1#32
  let v438 : BitVec 32 := Scalar.muli v45 c1_i32_321
  let v439 : BitVec 32 := Scalar.addi c0_i32_322 v438
  v439.toNat
def k0_dev24 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_342 : BitVec 32 := 1#32
  let v463 : BitVec 32 := Scalar.muli v52 c1_i32_342
  let v464 : BitVec 32 := Scalar.addi c0_i32_343 v463
  v464.toNat
def k0_dev25 (d0 : Dev nD) : Nat :=
  let c0_i32_365 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_364 : BitVec 32 := 1#32
  let v488 : BitVec 32 := Scalar.muli v58 c1_i32_364
  let v489 : BitVec 32 := Scalar.addi c0_i32_365 v488
  v489.toNat
def k0_dev26 (d0 : Dev nD) : Nat :=
  let c0_i32_387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_386 : BitVec 32 := 1#32
  let v513 : BitVec 32 := Scalar.muli v45 c1_i32_386
  let v514 : BitVec 32 := Scalar.addi c0_i32_387 v513
  v514.toNat
def k0_dev27 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_408 : BitVec 32 := 1#32
  let v538 : BitVec 32 := Scalar.muli v52 c1_i32_408
  let v539 : BitVec 32 := Scalar.addi c0_i32_409 v538
  v539.toNat
def k0_off31 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let c0_i32_421 : BitVec 32 := 0#32
  ![v77.toNat, 0]
def k0_dev28 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_419 : BitVec 32 := 1#32
  let v552 : BitVec 32 := Scalar.muli v52 c1_i32_419
  let v553 : BitVec 32 := Scalar.addi c0_i32_420 v552
  v553.toNat
def k0_off32 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let c0_i32_432 : BitVec 32 := 0#32
  ![v87.toNat, 0]
def k0_dev29 (d0 : Dev nD) : Nat :=
  let c0_i32_431 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_430 : BitVec 32 := 1#32
  let v566 : BitVec 32 := Scalar.muli v58 c1_i32_430
  let v567 : BitVec 32 := Scalar.addi c0_i32_431 v566
  v567.toNat
def k0_off33 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let c0_i32_443 : BitVec 32 := 0#32
  ![v67.toNat, 0]
def k0_dev30 (d0 : Dev nD) : Nat :=
  let c0_i32_442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_441 : BitVec 32 := 1#32
  let v580 : BitVec 32 := Scalar.muli v45 c1_i32_441
  let v581 : BitVec 32 := Scalar.addi c0_i32_442 v580
  v581.toNat
def k0_off34 (d0 : Dev nD) : Fin 2 → Nat :=
  let c384_i32 : BitVec 32 := 384#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c160_i32 : BitVec 32 := 160#32
  let v76 : BitVec 32 := Scalar.muli v37 c160_i32
  let v77 : BitVec 32 := Scalar.addi c384_i32 v76
  let c256_i32_454 : BitVec 32 := 256#32
  ![v77.toNat, 256]
def k0_dev31 (d0 : Dev nD) : Nat :=
  let c0_i32_453 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_16 : BitVec 32 := 4#32
  let v46 : BitVec 32 := Scalar.muli v19 c4_i32_16
  let c1_i32_17 : BitVec 32 := 1#32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let v47 : BitVec 32 := Scalar.subi c1_i32_17 v37
  let c2_i32_18 : BitVec 32 := 2#32
  let v48 : BitVec 32 := Scalar.muli v47 c2_i32_18
  let v49 : BitVec 32 := Scalar.addi v46 v48
  let c2_i32_12 : BitVec 32 := 2#32
  let v38 : BitVec 32 := Scalar.remsi v20 c2_i32_12
  let v39 : BitVec 32 := Scalar.xori v37 v38
  let c1_i32_19 : BitVec 32 := 1#32
  let v50 : BitVec 32 := Scalar.subi c1_i32_19 v37
  let v51 : BitVec 32 := Scalar.xori v39 v50
  let v52 : BitVec 32 := Scalar.addi v49 v51
  let c1_i32_452 : BitVec 32 := 1#32
  let v594 : BitVec 32 := Scalar.muli v52 c1_i32_452
  let v595 : BitVec 32 := Scalar.addi c0_i32_453 v594
  v595.toNat
def k0_off35 (d0 : Dev nD) : Fin 2 → Nat :=
  let c704_i32 : BitVec 32 := 704#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c160_i32_43 : BitVec 32 := 160#32
  let v86 : BitVec 32 := Scalar.muli v19 c160_i32_43
  let v87 : BitVec 32 := Scalar.addi c704_i32 v86
  let c256_i32_465 : BitVec 32 := 256#32
  ![v87.toNat, 256]
def k0_dev32 (d0 : Dev nD) : Nat :=
  let c0_i32_464 : BitVec 32 := 0#32
  let c1_i32_20 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v53 : BitVec 32 := Scalar.subi c1_i32_20 v19
  let c4_i32_21 : BitVec 32 := 4#32
  let v54 : BitVec 32 := Scalar.muli v53 c4_i32_21
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_22 : BitVec 32 := 2#32
  let v55 : BitVec 32 := Scalar.muli v37 c2_i32_22
  let v56 : BitVec 32 := Scalar.addi v54 v55
  let c2_i32_12 : BitVec 32 := 2#32
  let v38 : BitVec 32 := Scalar.remsi v20 c2_i32_12
  let v39 : BitVec 32 := Scalar.xori v37 v38
  let v57 : BitVec 32 := Scalar.xori v39 v37
  let v58 : BitVec 32 := Scalar.addi v56 v57
  let c1_i32_463 : BitVec 32 := 1#32
  let v608 : BitVec 32 := Scalar.muli v58 c1_i32_463
  let v609 : BitVec 32 := Scalar.addi c0_i32_464 v608
  v609.toNat
def k0_off36 (d0 : Dev nD) : Fin 2 → Nat :=
  let c0_i32_32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_12 : BitVec 32 := 2#32
  let v38 : BitVec 32 := Scalar.remsi v20 c2_i32_12
  let v39 : BitVec 32 := Scalar.xori v37 v38
  let c192_i32 : BitVec 32 := 192#32
  let v66 : BitVec 32 := Scalar.muli v39 c192_i32
  let v67 : BitVec 32 := Scalar.addi c0_i32_32 v66
  let c256_i32_476 : BitVec 32 := 256#32
  ![v67.toNat, 256]
def k0_dev33 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v40 : BitVec 32 := Scalar.muli v19 c4_i32_13
  let c4_i32_5 : BitVec 32 := 4#32
  let v20 : BitVec 32 := Scalar.remsi v2 c4_i32_5
  let c0_i32_6 : BitVec 32 := 0#32
  let v22 : BitVec 1 := Scalar.cmpi .sgt v20 c0_i32_6
  let v23 : BitVec 32 := Scalar.extui v22
  let c0_i32_7 : BitVec 32 := 0#32
  let v24 : BitVec 1 := Scalar.cmpi .slt v20 c0_i32_7
  let v25 : BitVec 32 := Scalar.extui v24
  let v26 : BitVec 32 := Scalar.subi v23 v25
  let c2_i32 : BitVec 32 := 2#32
  let c0_i32_8 : BitVec 32 := 0#32
  let v27 : BitVec 1 := Scalar.cmpi .sgt c2_i32 c0_i32_8
  let v28 : BitVec 32 := Scalar.extui v27
  let c0_i32_9 : BitVec 32 := 0#32
  let v29 : BitVec 1 := Scalar.cmpi .slt c2_i32 c0_i32_9
  let v30 : BitVec 32 := Scalar.extui v29
  let v31 : BitVec 32 := Scalar.subi v28 v30
  let v32 : BitVec 1 := Scalar.cmpi .ne v26 v31
  let v33 : BitVec 32 := Scalar.remsi v20 c2_i32
  let c0_i32_10 : BitVec 32 := 0#32
  let v34 : BitVec 1 := Scalar.cmpi .ne v33 c0_i32_10
  let v35 : BitVec 1 := Scalar.andi v32 v34
  let v21 : BitVec 32 := Scalar.divsi v20 c2_i32
  let c1_i32_11 : BitVec 32 := 1#32
  let v36 : BitVec 32 := Scalar.subi v21 c1_i32_11
  let v37 : BitVec 32 := Scalar.select v35 v36 v21
  let c2_i32_14 : BitVec 32 := 2#32
  let v41 : BitVec 32 := Scalar.muli v37 c2_i32_14
  let v42 : BitVec 32 := Scalar.addi v40 v41
  let c1_i32_15 : BitVec 32 := 1#32
  let c2_i32_12 : BitVec 32 := 2#32
  let v38 : BitVec 32 := Scalar.remsi v20 c2_i32_12
  let v39 : BitVec 32 := Scalar.xori v37 v38
  let v43 : BitVec 32 := Scalar.subi c1_i32_15 v39
  let v44 : BitVec 32 := Scalar.xori v43 v37
  let v45 : BitVec 32 := Scalar.addi v42 v44
  let c1_i32_474 : BitVec 32 := 1#32
  let v622 : BitVec 32 := Scalar.muli v45 c1_i32_474
  let v623 : BitVec 32 := Scalar.addi c0_i32_475 v622
  v623.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x512 : Shape := ⟨2, ![8192, 512]⟩
abbrev S8x1024x512 : Shape := ⟨3, ![8, 1024, 512]⟩
abbrev S_ : Shape := ⟨0, ![]⟩
abbrev S1024x512 : Shape := ⟨2, ![1024, 512]⟩

abbrev nBuf : Space → Nat
  | .hbm => 4
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8x1024x512, .f32⟩
  | .hbm, ⟨2, _⟩ => ⟨S_, .f32⟩
  | .hbm, ⟨3, _⟩ => ⟨S1024x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cube.lean ====
/-
# The cube: devices, chains, rows

Eight devices are the corners of a 2×2×2 cube. The 1024 rows fall into three parts and the 512 columns into two
halves; a part and a half together are a CHAIN, and the six chains run side by side. A chain of part `p` crosses
the cube along the axes `p`, `p + 1`, `p + 2` (mod 3) in its three reduction stages — each device keeps half of its
rows, then half of these, then exchanges what is left — and crosses back along the second and the first axis to
gather. This file names the partners, the rows, the regions of a buffer they cover, and the semaphores.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.CubeProof

open Cert.KernelIdeal Cert.KernelIdeal.Gen
open Idealize.ShloMosaic
open Idealize.ShloMosaic.TcCoe

/-! ## Partners -/

/-- The device across axis `a`: axis 0 flips the position in a row, 1 the row of a plane, 2 the plane. -/
def par (a : Fin 3) (c : Dev nD) : Dev nD := ⟨(c.val ^^^ (![1, 3, 4] a : ℕ)) % 8, Nat.mod_lt _ (by decide)⟩
/-- The coordinate of device `c` along axis `a`. -/
def bit (a : Fin 3) (c : Dev nD) : ℕ := (![(c.val / 2 + c.val) % 2, c.val / 2 % 2, c.val / 4] : Fin 3 → ℕ) a

abbrev Chain : Type := Fin 6
abbrev Stage : Type := Fin 5

def part (k : Chain) : Fin 3 := ![1, 2, 0, 1, 2, 0] k
def colHalf (k : Chain) : ℕ := ![0, 0, 0, 1, 1, 1] k
/-- The axis of chain `k` in reduction stage `j`. -/
def ax (j : Fin 3) (k : Chain) : Fin 3 := part k + j
/-- The axis crossed in stage `s`. -/
def stageAx (s : Stage) : Fin 3 := ![0, 1, 2, 1, 0] s
/-- Chain `k`'s partner of device `c` in reduction stage `j`. -/
def pt (j : Fin 3) (k : Chain) (c : Dev nD) : Dev nD := par (ax j k) c

theorem par_par (a : Fin 3) (c : Dev nD) : par a (par a c) = c := by revert a c; decide +kernel
theorem pt_pt (j : Fin 3) (k : Chain) (c : Dev nD) : pt j k (pt j k c) = c := par_par _ _
theorem par_inj {a b : Fin 3} {c : Dev nD} (h : par a c = par b c) : a = b := by revert a b c; decide +kernel
/-- Crossing an axis, as a permutation of the devices. -/
def parE (a : Fin 3) : Dev nD ≃ Dev nD := ⟨par a, par a, par_par a, par_par a⟩

/-- The axis of chain `k` in stage `s`, and the device it crosses to. -/
def sax (s : Stage) (k : Chain) : Fin 3 := ax (stageAx s) k
def dst (s : Stage) (k : Chain) (c : Dev nD) : Dev nD := pt (stageAx s) k c
theorem dst_dst (s : Stage) (k : Chain) (c : Dev nD) : dst s k (dst s k c) = c := par_par _ _
def dstE (s : Stage) (k : Chain) : Dev nD ≃ Dev nD := ⟨dst s k, dst s k, dst_dst s k, dst_dst s k⟩

/-! ## Rows -/

def base (k : Chain) : ℕ := ![0, 384, 704] (part k)
def hf (k : Chain) : ℕ := ![192, 160, 160] (part k)
def qt (k : Chain) : ℕ := ![96, 80, 80] (part k)

/-- `n` rows of half the columns. -/
abbrev Sn (n : ℕ) : Shape := ⟨2, ![n, 256]⟩
abbrev Off : Type := Fin 2 → ℕ
abbrev Inb (off : Off) (n : ℕ) : Prop := ∀ a, off a + (Sn n).size a ≤ S1024x512.size a

/-- Where device `c` keeps its half, and its quarter, of chain `k`. -/
def row0 (k : Chain) (c : Dev nD) : ℕ := base k + bit (ax 0 k) c * hf k
def row1 (k : Chain) (c : Dev nD) : ℕ := row0 k c + bit (ax 1 k) c * qt k
def off0 (k : Chain) (c : Dev nD) : Off := ![row0 k c, 256 * colHalf k]
def off1 (k : Chain) (c : Dev nD) : Off := ![row1 k c, 256 * colHalf k]
/-- Where the landings of reduction stage `j` lie in the landing buffer, and how many rows they have. -/
def coff (j : Fin 3) (k : Chain) : Off := ![base k + (![0, hf k, hf k + qt k] j : ℕ), 256 * colHalf k]
def cn (j : Fin 3) (k : Chain) : ℕ := ![hf k, qt k, qt k] j

theorem off0_inb (k : Chain) (c : Dev nD) : Inb (off0 k c) (hf k) := by revert k c; decide +kernel
theorem off1_inb (k : Chain) (c : Dev nD) : Inb (off1 k c) (qt k) := by revert k c; decide +kernel
theorem coff_inb (j : Fin 3) (k : Chain) : Inb (coff j k) (cn j k) := by revert j k; decide +kernel

/-! ## Regions -/

/-- The elements of `n` rows from `off 0`, 256 columns from `off 1`. -/
def rect (off : Off) (n : ℕ) (h : Inb off n) : Rect S1024x512 := Rect.unit (s := S1024x512) off (Sn n).size h
abbrev Reg : Type := Finset S1024x512.Idx
def region (r n h : ℕ) : Reg := Finset.univ.filter fun i => (r ≤ (i 0).val ∧ (i 0).val < r + n) ∧ (i 1).val / 256 = h

theorem mem_region {r n h : ℕ} {i : S1024x512.Idx} : i ∈ region r n h ↔ (r ≤ (i 0).val ∧ (i 0).val < r + n) ∧ (i 1).val / 256 = h := by
  unfold region; rw [Finset.mem_filter]; exact and_iff_right (Finset.mem_univ _)

end Cert.CubeProof

end
-- ==== Proof.Program.lean ====
/-
# The body as six chains in seven phases

The kernel's body is one text of 145 memory operations. Here it is written over the chain `k`: seven operations
(`snd`, `rcv`, `acc` and so on, each with its tables) and six-fold sequences of them. `body_eq` says that the
printed body is that program. The tables that depend on the device are given twice: as printed (`raw`) and in closed
form (`tab`), and `raw_eq` says that they agree.
-/
module

public import proofs.«01_k».proof.Proof.Cube

@[expose] public section

noncomputable section

namespace Cert.CubeProof

open Cert.KernelIdeal Cert.KernelIdeal.Gen
open Idealize.ShloMosaic Idealize.SL.Sem
open Idealize.ShloMosaic.TcCoe

/-- The rows and the devices a body uses, as functions of the device it runs on: where it keeps (`K0`, `K1`) and
sends (`S0`, `S1`) chain `k`'s half and quarter (`K1s` and `K0s` where it is to send what it keeps), and the devices it signals and sends to. -/
structure Tab where
  K0 : Chain → Dev nD → Off
  S0 : Chain → Dev nD → Off
  K1 : Chain → Dev nD → Off
  S1 : Chain → Dev nD → Off
  K1s : Chain → Dev nD → Off
  K0s : Chain → Dev nD → Off
  tgt : Stage → Chain → Dev nD → Dev nD
  bar : Fin 3 → Dev nD → Dev nD
  K0_inb : ∀ k c, Inb (K0 k c) (hf k)
  S0_inb : ∀ k c, Inb (S0 k c) (hf k)
  K1_inb : ∀ k c, Inb (K1 k c) (qt k)
  S1_inb : ∀ k c, Inb (S1 k c) (qt k)
  K1s_inb : ∀ k c, Inb (K1s k c) (qt k)
  K0s_inb : ∀ k c, Inb (K0s k c) (hf k)

theorem Tab.ext {T U : Tab} (h0 : T.K0 = U.K0) (h1 : T.S0 = U.S0) (h2 : T.K1 = U.K1) (h3 : T.S1 = U.S1) (h4 : T.K1s = U.K1s) (h5 : T.K0s = U.K0s)
    (h6 : T.tgt = U.tgt) (h7 : T.bar = U.bar) : T = U := by
  cases T; cases U; simp only [Tab.mk.injEq]; exact ⟨h0, h1, h2, h3, h4, h5, h6, h7⟩

/-- The tables in closed form. -/
def tab : Tab where
  K0 := off0
  S0 k c := off0 k (pt 0 k c)
  K1 := off1
  S1 k c := off1 k (pt 1 k c)
  K1s := off1
  K0s := off0
  tgt := dst
  bar := par
  K0_inb := off0_inb
  S0_inb k c := off0_inb k _
  K1_inb := off1_inb
  S1_inb k c := off1_inb k _
  K1s_inb := off1_inb
  K0s_inb := off0_inb

def rawS0 (k : Chain) (c : Dev nD) : Off := (![k0_off1, k0_off2, k0_off3, k0_off4, k0_off5, k0_off6] : Fin 6 → Dev nD → Off) k c
def rawK0 (k : Chain) (c : Dev nD) : Off := (![k0_off7, k0_off9, k0_off11, k0_off13, k0_off15, k0_off17] : Fin 6 → Dev nD → Off) k c
def rawS1 (k : Chain) (c : Dev nD) : Off := (![k0_off8, k0_off10, k0_off12, k0_off14, k0_off16, k0_off18] : Fin 6 → Dev nD → Off) k c
def rawK1 (k : Chain) (c : Dev nD) : Off := (![k0_off19, k0_off21, k0_off23, k0_off25, k0_off27, k0_off29] : Fin 6 → Dev nD → Off) k c
def rawK1s (k : Chain) (c : Dev nD) : Off := (![k0_off20, k0_off22, k0_off24, k0_off26, k0_off28, k0_off30] : Fin 6 → Dev nD → Off) k c
def rawK0s (k : Chain) (c : Dev nD) : Off := (![k0_off31, k0_off32, k0_off33, k0_off34, k0_off35, k0_off36] : Fin 6 → Dev nD → Off) k c

theorem rawS0_eq : rawS0 = fun k c => off0 k (pt 0 k c) := by decide +kernel
theorem rawK0_eq : rawK0 = off0 := by decide +kernel
theorem rawS1_eq : rawS1 = fun k c => off1 k (pt 1 k c) := by decide +kernel
theorem rawK1_eq : rawK1 = off1 := by decide +kernel
theorem rawK1s_eq : rawK1s = off1 := by decide +kernel
theorem rawK0s_eq : rawK0s = off0 := by decide +kernel

def rawBar (a : Fin 3) (c : Dev nD) : Dev nD :=
  (![⟨k0_dev1 c, k0_dev1_lt c⟩, ⟨k0_dev2 c, k0_dev2_lt c⟩, ⟨k0_dev3 c, k0_dev3_lt c⟩] : Fin 3 → Dev nD) a
def rawTo (s : Stage) (k : Chain) (c : Dev nD) : Dev nD :=
  (![![⟨k0_dev4 c, k0_dev4_lt c⟩, ⟨k0_dev5 c, k0_dev5_lt c⟩, ⟨k0_dev6 c, k0_dev6_lt c⟩, ⟨k0_dev7 c, k0_dev7_lt c⟩, ⟨k0_dev8 c, k0_dev8_lt c⟩, ⟨k0_dev9 c, k0_dev9_lt c⟩],
    ![⟨k0_dev10 c, k0_dev10_lt c⟩, ⟨k0_dev11 c, k0_dev11_lt c⟩, ⟨k0_dev12 c, k0_dev12_lt c⟩, ⟨k0_dev13 c, k0_dev13_lt c⟩, ⟨k0_dev14 c, k0_dev14_lt c⟩, ⟨k0_dev15 c, k0_dev15_lt c⟩],
    ![⟨k0_dev16 c, k0_dev16_lt c⟩, ⟨k0_dev17 c, k0_dev17_lt c⟩, ⟨k0_dev18 c, k0_dev18_lt c⟩, ⟨k0_dev19 c, k0_dev19_lt c⟩, ⟨k0_dev20 c, k0_dev20_lt c⟩, ⟨k0_dev21 c, k0_dev21_lt c⟩],
    ![⟨k0_dev22 c, k0_dev22_lt c⟩, ⟨k0_dev23 c, k0_dev23_lt c⟩, ⟨k0_dev24 c, k0_dev24_lt c⟩, ⟨k0_dev25 c, k0_dev25_lt c⟩, ⟨k0_dev26 c, k0_dev26_lt c⟩, ⟨k0_dev27 c, k0_dev27_lt c⟩],
    ![⟨k0_dev28 c, k0_dev28_lt c⟩, ⟨k0_dev29 c, k0_dev29_lt c⟩, ⟨k0_dev30 c, k0_dev30_lt c⟩, ⟨k0_dev31 c, k0_dev31_lt c⟩, ⟨k0_dev32 c, k0_dev32_lt c⟩, ⟨k0_dev33 c, k0_dev33_lt c⟩]] : Fin 5 → Fin 6 → Dev nD) s k

theorem rawBar_eq : rawBar = par := by decide +kernel
theorem rawTo_eq : rawTo = dst := by decide +kernel

/-- The tables as printed. -/
def raw : Tab where
  K0 := rawK0
  S0 := rawS0
  K1 := rawK1
  S1 := rawS1
  K1s := rawK1s
  K0s := rawK0s
  tgt := rawTo
  bar := rawBar
  K0_inb := rawK0_eq ▸ off0_inb
  S0_inb := rawS0_eq ▸ fun k c => off0_inb k _
  K1_inb := rawK1_eq ▸ off1_inb
  S1_inb := rawS1_eq ▸ fun k c => off1_inb k _
  K1s_inb := rawK1s_eq ▸ off1_inb
  K0s_inb := rawK0s_eq ▸ off0_inb

theorem raw_eq : raw = tab := Tab.ext rawK0_eq rawS0_eq rawK1_eq rawS1_eq rawK1s_eq rawK0s_eq rawTo_eq rawBar_eq

/-! ## The operations -/

theorem n_pos {n : ℕ} (h : 0 < n) : 0 < (Sn n).numel := by
  unfold Shape.numel; rw [Fin.prod_univ_two]; exact Nat.mul_pos h (Nat.succ_pos 255)
theorem hf_pos (k : Chain) : 0 < hf k := by revert k; decide
theorem qt_pos (k : Chain) : 0 < qt k := by revert k; decide
theorem cn_pos (j : Fin 3) (k : Chain) : 0 < cn j k := by revert j k; decide

/-- A semaphore of an array of thirty. -/
def ix (s : Stage) (k : Chain) : ℕ := 6 * s.val + ![2, 4, 0, 3, 5, 1] k
theorem ix_inb (s : Stage) (k : Chain) : ∀ a, (![ix s k] : Fin 1 → ℕ) a + S1.size a ≤ S30.size a := by revert s k; decide +kernel
def semOf (a : DmaSems sig S30) (s : Stage) (k : Chain) : DmaSem sig :=
  ((a.slice (Rect.unit (s := S30) ![ix s k] S1.size (ix_inb s k))).squeeze S_ squeezes_S1_S_).sem

/-- `n` rows of a buffer, from `off`. -/
abbrev Mem : Type := Memref sig .tc .vmem S1024x512 .f32
def sl (M : Mem) (off : Off) (n : ℕ) (h : Inb off n) : Memref sig .tc .vmem (Sn n) .f32 := M.slice (rect off n h) (fun _ => rfl)

variable {F : FTy → Type} [FloatOps F]

abbrev P (F : FTy → Type) (α : Type) : Type 1 := Prog (TpuEff nD τ sig (Elt F) Λ₀ .tc) α

/-- A copy of `n` rows of `A` at `a` to the rows of `B` at `b` on device `d`. -/
def copy (A B : Mem) (ss rs : DmaSem sig) (n : ℕ) (a b : Off) (ha : Inb a n) (hb : Inb b n) (d : Dev nD) : P F PUnit :=
  Prog.lift (.enqueueDma (sl A a n ha) (.remote (Dev.tc d) (sl B b n hb) (.dma ss)) (.dma rs) (View.wordExact_bits rfl) (View.wordExact_bits rfl)
    ⟨⟨rfl, Or.inl rfl⟩, trivial⟩)

/-- A wait on `sm` for the bytes of `n` rows. -/
def await (sm : DmaSem sig) (A B : Mem) (n : ℕ) (a b : Off) (ha : Inb a n) (hb : Inb b n) : P F PUnit :=
  Prog.lift (.waitDma2 sm (sl A a n ha) (sl B b n hb) (View.wordExact_bits rfl) (View.wordExact_bits rfl))

/-- The sum of `n` rows of `A` at `a` and the rows of `B` at `b`: the two loads. -/
def sum (A B : Mem) (n : ℕ) (hn : 0 < n) (a b : Off) (ha : Inb a n) (hb : Inb b n) : P F (FVec F (Sn n) .f32) := do
  let v : Vec F (Sn n) .f32 ← Prog.lift (.load A (rect a n ha).toLoadRect (View.loadsAt_vmem (n_pos hn)))
  let w : Vec F (Sn n) .f32 ← Prog.lift (.load B (rect b n hb).toLoadRect (View.loadsAt_vmem (n_pos hn)))
  pure (addf (shapeCast (Sn n) v rfl) w)

/-- The store of the sum, after a load whose value is not used. -/
def put (C : Mem) (n : ℕ) (hn : 0 < n) (a : Off) (ha : Inb a n) (w : FVec F (Sn n) .f32) : P F PUnit := do
  let _ : Vec F (Sn n) .f32 ← Prog.lift (.load C (rect a n ha).toLoadRect (View.loadsAt_vmem (n_pos hn)))
  Prog.lift (.store C (rect a n ha) w Finset.univ (View.stores_vmem_bits_univ (n_pos hn) rfl) (.inl rfl))

/-! ## The phases, for one chain -/

section
variable (T : Tab) (x o m : Mem) (ss rs : DmaSems sig S30) (c : Dev nD)

def snd0 (k : Chain) : P F PUnit :=
  copy x m (semOf ss 0 k) (semOf rs 0 k) (hf k) (T.S0 k c) (coff 0 k) (T.S0_inb k c) (coff_inb 0 k) (T.tgt 0 k c)
def rcv0 (k : Chain) : P F PUnit := await (semOf rs 0 k) x m (hf k) (T.S0 k c) (coff 0 k) (T.S0_inb k c) (coff_inb 0 k)
def sum0 (k : Chain) : P F (FVec F (Sn (hf k)) .f32) := sum x m (hf k) (hf_pos k) (T.K0 k c) (coff 0 k) (T.K0_inb k c) (coff_inb 0 k)
def put0 (k : Chain) (w : FVec F (Sn (hf k)) .f32) : P F PUnit := put o (hf k) (hf_pos k) (T.K0 k c) (T.K0_inb k c) w

def snd1 (k : Chain) : P F PUnit :=
  copy o m (semOf ss 1 k) (semOf rs 1 k) (qt k) (T.S1 k c) (coff 1 k) (T.S1_inb k c) (coff_inb 1 k) (T.tgt 1 k c)
def rcv1 (k : Chain) : P F PUnit := await (semOf rs 1 k) o m (qt k) (T.S1 k c) (coff 1 k) (T.S1_inb k c) (coff_inb 1 k)
def sum1 (k : Chain) : P F (FVec F (Sn (qt k)) .f32) := sum o m (qt k) (qt_pos k) (T.K1 k c) (coff 1 k) (T.K1_inb k c) (coff_inb 1 k)
def sum2 (k : Chain) : P F (FVec F (Sn (qt k)) .f32) := sum o m (qt k) (qt_pos k) (T.K1 k c) (coff 2 k) (T.K1_inb k c) (coff_inb 2 k)
def putj (k : Chain) (w : FVec F (Sn (qt k)) .f32) : P F PUnit := put o (qt k) (qt_pos k) (T.K1 k c) (T.K1_inb k c) w

def snd2 (k : Chain) : P F PUnit :=
  copy o m (semOf ss 2 k) (semOf rs 2 k) (qt k) (T.K1s k c) (coff 2 k) (T.K1s_inb k c) (coff_inb 2 k) (T.tgt 2 k c)
def sent2 (k : Chain) : P F PUnit := await (semOf ss 2 k) m o (qt k) (coff 2 k) (T.K1s k c) (coff_inb 2 k) (T.K1s_inb k c)
def rcv2 (k : Chain) : P F PUnit := await (semOf rs 2 k) o m (qt k) (T.K1s k c) (coff 2 k) (T.K1s_inb k c) (coff_inb 2 k)

def snd3 (k : Chain) : P F PUnit :=
  copy o o (semOf ss 3 k) (semOf rs 3 k) (qt k) (T.K1s k c) (T.K1s k c) (T.K1s_inb k c) (T.K1s_inb k c) (T.tgt 3 k c)
def rcv3 (k : Chain) : P F PUnit := await (semOf rs 3 k) o o (qt k) (T.K1s k c) (T.K1s k c) (T.K1s_inb k c) (T.K1s_inb k c)
def snd4 (k : Chain) : P F PUnit :=
  copy o o (semOf ss 4 k) (semOf rs 4 k) (hf k) (T.K0s k c) (T.K0s k c) (T.K0s_inb k c) (T.K0s_inb k c) (T.tgt 4 k c)
def rcv4 (k : Chain) : P F PUnit := await (semOf rs 4 k) o o (hf k) (T.K0s k c) (T.K0s k c) (T.K0s_inb k c) (T.K0s_inb k c)

def sent0 (k : Chain) : P F PUnit := await (semOf ss 0 k) m x (hf k) (coff 0 k) (T.S0 k c) (coff_inb 0 k) (T.S0_inb k c)
def sent1 (k : Chain) : P F PUnit := await (semOf ss 1 k) m o (qt k) (coff 1 k) (T.S1 k c) (coff_inb 1 k) (T.S1_inb k c)
def sent3 (k : Chain) : P F PUnit := await (semOf ss 3 k) o o (qt k) (T.K1s k c) (T.K1s k c) (T.K1s_inb k c) (T.K1s_inb k c)
def sent4 (k : Chain) : P F PUnit := await (semOf ss 4 k) o o (hf k) (T.K0s k c) (T.K0s k c) (T.K0s_inb k c) (T.K0s_inb k c)

/-- The barrier semaphore. -/
abbrev barSem : Sem sig := (SemArray.scalar (sig.barrier 0 rfl) : Sems sig S_).sem

/-- The handshake: a signal to each of the three neighbours, then a wait for theirs. -/
def shake : P F PUnit := do
  semSignalWord (T.bar 0 c) barSem 1#32
  semSignalWord (T.bar 1 c) barSem 1#32
  semSignalWord (T.bar 2 c) barSem 1#32
  semWaitWord barSem 3#32

/-- Six chains, one after the other. -/
def seq6 (f : Chain → P F PUnit) : P F PUnit := do
  f 0; f 1; f 2; f 3; f 4; f 5

def phase1 (k : Chain) : P F PUnit := do
  rcv0 T x m rs c k
  let w ← sum0 T x m c k
  put0 T o c k w
  snd1 T o m ss rs c k
def phase2 (k : Chain) : P F PUnit := do
  rcv1 T o m rs c k
  let w ← sum1 T o m c k
  putj T o c k w
  snd2 T o m ss rs c k
def phase3 (k : Chain) : P F PUnit := do
  sent2 T o m ss c k
  rcv2 T o m rs c k
  let w ← sum2 T o m c k
  putj T o c k w
  snd3 T o ss rs c k
def phase4 (k : Chain) : P F PUnit := do
  rcv3 T o rs c k
  snd4 T o ss rs c k

/-- The whole body, after the device has read its own name. -/
def prog : P F PUnit := do
  shake T c
  seq6 (snd0 T x m ss rs c)
  seq6 (phase1 T x o m ss rs c)
  seq6 (phase2 T o m ss rs c)
  seq6 (phase3 T o m ss rs c)
  seq6 (phase4 T o ss rs c)
  seq6 (rcv4 T o rs c)
  seq6 (sent0 T x m ss c)
  seq6 (sent1 T o m ss c)
  seq6 (sent3 T o ss c)
  seq6 (sent4 T o ss c)

end

/-! ## The printed body is this program -/

section
variable (x : Mem) (hx : x.IsWhole) (o : Mem) (ho : o.IsWhole) (m : Mem) (hm : m.IsWhole) (ss rs : DmaSems sig S30) (c : Dev nD)

theorem part1_eq : ∃ p q r t : Dev nD → BitVec 32, k0_part1 (F := F) x hx o ho m hm ss rs = (do
    let c ← Prog.lift .deviceId
    pure ⟨c, p c, q c, r c, t c⟩) := by rw [k0_part1_eq_skeleton]; exact ⟨_, _, _, _, rfl⟩
theorem part2_eq : ∃ r : BitVec 32 → BitVec 32 → BitVec 32 → BitVec 32 → _, ∀ a b e f, k0_part2 (F := F) x hx o ho m hm ss rs c a b e f = (do
    shake raw c
    pure (r a b e f)) := by rw [k0_part2_eq_skeleton]; exact ⟨fun a b e f => _, fun a b e f => rfl⟩

theorem part3_eq : ∃ r : BitVec 32 → BitVec 32 → BitVec 32 → BitVec 32 → BitVec 32 → _, ∀ a b e f g, k0_part3 (F := F) x hx o ho m hm ss rs c a b e f g = (do
    snd0 raw x m ss rs c 0
    pure (r a b e f g)) := by rw [k0_part3_eq_skeleton]; exact ⟨fun a b e f g => _, fun a b e f g => rfl⟩

theorem part4_eq (a b e : BitVec 32) : k0_part4 (F := F) x hx o ho m hm ss rs c a b e = (do
    snd0 raw x m ss rs c 1
    snd0 raw x m ss rs c 2
    snd0 raw x m ss rs c 3) := k0_part4_eq_skeleton (F := F) ▸ rfl

theorem part5_eq (a b e f : BitVec 32) : k0_part5 (F := F) x hx o ho m hm ss rs c a b e f = (do
    snd0 raw x m ss rs c 4
    snd0 raw x m ss rs c 5
    rcv0 raw x m rs c 0
    let w ← sum0 raw x m c 0; put0 raw o c 0 w) := k0_part5_eq_skeleton (F := F) ▸ rfl

theorem part6_eq (a b e f : BitVec 32) : k0_part6 (F := F) x hx o ho m hm ss rs c a b e f = (do
    snd1 raw o m ss rs c 0
    rcv0 raw x m rs c 1
    let w ← sum0 raw x m c 1; put0 raw o c 1 w
    snd1 raw o m ss rs c 1
    rcv0 raw x m rs c 2) := k0_part6_eq_skeleton (F := F) ▸ rfl

theorem part7_eq (a b e f : BitVec 32) : k0_part7 (F := F) x hx o ho m hm ss rs c a b e f = (do
    let w ← sum0 raw x m c 2; put0 raw o c 2 w
    snd1 raw o m ss rs c 2
    rcv0 raw x m rs c 3
    let w ← sum0 raw x m c 3; put0 raw o c 3 w) := k0_part7_eq_skeleton (F := F) ▸ rfl

theorem part8_eq (a b e : BitVec 32) : k0_part8 (F := F) x hx o ho m hm ss rs c a b e = (do
    snd1 raw o m ss rs c 3
    rcv0 raw x m rs c 4
    let w ← sum0 raw x m c 4; put0 raw o c 4 w
    snd1 raw o m ss rs c 4) := k0_part8_eq_skeleton (F := F) ▸ rfl

theorem part9_eq (a b e f : BitVec 32) : k0_part9 (F := F) x hx o ho m hm ss rs c a b e f = (do
    rcv0 raw x m rs c 5
    let w ← sum0 raw x m c 5; put0 raw o c 5 w
    snd1 raw o m ss rs c 5
    rcv1 raw o m rs c 0
    let w ← sum1 raw o m c 0; putj raw o c 0 w) := k0_part9_eq_skeleton (F := F) ▸ rfl

theorem part10_eq : ∃ r : BitVec 32 → BitVec 32 → BitVec 32 → _, ∀ a b e, k0_part10 (F := F) x hx o ho m hm ss rs c a b e = (do
    snd2 raw o m ss rs c 0
    rcv1 raw o m rs c 1
    let w ← sum1 raw o m c 1; putj raw o c 1 w
    snd2 raw o m ss rs c 1
    pure (r a b e)) := by rw [k0_part10_eq_skeleton]; exact ⟨fun a b e => _, fun a b e => rfl⟩

theorem part11_eq (a b e f : BitVec 32) : k0_part11 (F := F) x hx o ho m hm ss rs c a b e f = (do
    rcv1 raw o m rs c 2
    let w ← sum1 raw o m c 2; putj raw o c 2 w
    snd2 raw o m ss rs c 2
    rcv1 raw o m rs c 3
    sum1 raw o m c 3) := k0_part11_eq_skeleton (F := F) ▸ rfl

theorem part12_eq (a b e f : BitVec 32) (v : FVec F S80x256 .f32) : k0_part12 (F := F) x hx o ho m hm ss rs c a b e f v = (do
    putj raw o c 3 v
    snd2 raw o m ss rs c 3
    rcv1 raw o m rs c 4
    let w ← sum1 raw o m c 4; putj raw o c 4 w) := k0_part12_eq_skeleton (F := F) ▸ rfl

theorem part13_eq : ∃ r : BitVec 32 → BitVec 32 → BitVec 32 → BitVec 32 → _, ∀ a b e f, k0_part13 (F := F) x hx o ho m hm ss rs c a b e f = (do
    snd2 raw o m ss rs c 4
    rcv1 raw o m rs c 5
    let w ← sum1 raw o m c 5; putj raw o c 5 w
    snd2 raw o m ss rs c 5
    sent2 raw o m ss c 0
    pure (r a b e f)) := by rw [k0_part13_eq_skeleton]; exact ⟨fun a b e f => _, fun a b e f => rfl⟩

theorem part14_eq (a b e f g : BitVec 32) : k0_part14 (F := F) x hx o ho m hm ss rs c a b e f g = (do
    rcv2 raw o m rs c 0
    let w ← sum2 raw o m c 0; putj raw o c 0 w
    snd3 raw o ss rs c 0
    sent2 raw o m ss c 1) := k0_part14_eq_skeleton (F := F) ▸ rfl

theorem part15_eq (a b e f : BitVec 32) : k0_part15 (F := F) x hx o ho m hm ss rs c a b e f = (do
    rcv2 raw o m rs c 1
    let w ← sum2 raw o m c 1; putj raw o c 1 w
    snd3 raw o ss rs c 1
    sent2 raw o m ss c 2
    rcv2 raw o m rs c 2
    let v : Vec F (Sn 96) .f32 ← Prog.lift (.load o (rect (raw.K1 2 c) 96 (raw.K1_inb 2 c)).toLoadRect (View.loadsAt_vmem (n_pos (qt_pos 2))))
    let w : Vec F (Sn 96) .f32 ← Prog.lift (.load m (rect (coff 2 2) 96 (coff_inb 2 2)).toLoadRect (View.loadsAt_vmem (n_pos (qt_pos 2))))
    pure ⟨shapeCast (Sn 96) v rfl, w⟩) := k0_part15_eq_skeleton (F := F) ▸ rfl

theorem part16_eq : ∃ r : BitVec 32 → BitVec 32 → BitVec 32 → BitVec 32 → FVec F S96x256 .f32 → Vec F S96x256 .f32 → _, ∀ a b e f v u, k0_part16 (F := F) x hx o ho m hm ss rs c a b e f v u = (do
    putj raw o c 2 (addf v u)
    snd3 raw o ss rs c 2
    sent2 raw o m ss c 3
    rcv2 raw o m rs c 3
    let w ← sum2 raw o m c 3; putj raw o c 3 w
    pure (r a b e f v u)) := by rw [k0_part16_eq_skeleton]; exact ⟨fun a b e f v u => _, fun a b e f v u => rfl⟩

theorem part17_eq (a b e f g : BitVec 32) : k0_part17 (F := F) x hx o ho m hm ss rs c a b e f g = (do
    snd3 raw o ss rs c 3
    sent2 raw o m ss c 4
    rcv2 raw o m rs c 4
    let w ← sum2 raw o m c 4; putj raw o c 4 w) := k0_part17_eq_skeleton (F := F) ▸ rfl

theorem part18_eq : ∃ r : BitVec 32 → BitVec 32 → BitVec 32 → _, ∀ a b e, k0_part18 (F := F) x hx o ho m hm ss rs c a b e = (do
    snd3 raw o ss rs c 4
    sent2 raw o m ss c 5
    rcv2 raw o m rs c 5
    let w ← sum2 raw o m c 5; putj raw o c 5 w
    snd3 raw o ss rs c 5
    pure (r a b e)) := by rw [k0_part18_eq_skeleton]; exact ⟨fun a b e => _, fun a b e => rfl⟩

theorem part19_eq (a b e f : BitVec 32) : k0_part19 (F := F) x hx o ho m hm ss rs c a b e f = (do
    rcv3 raw o rs c 0
    snd4 raw o ss rs c 0
    rcv3 raw o rs c 1
    snd4 raw o ss rs c 1) := k0_part19_eq_skeleton (F := F) ▸ rfl

theorem part20_eq (a b e : BitVec 32) : k0_part20 (F := F) x hx o ho m hm ss rs c a b e = (do
    rcv3 raw o rs c 2
    snd4 raw o ss rs c 2
    rcv3 raw o rs c 3
    snd4 raw o ss rs c 3) := k0_part20_eq_skeleton (F := F) ▸ rfl

theorem part21_eq : ∃ r : BitVec 32 → BitVec 32 → BitVec 32 → _, ∀ a b e, k0_part21 (F := F) x hx o ho m hm ss rs c a b e = (do
    rcv3 raw o rs c 4
    snd4 raw o ss rs c 4
    rcv3 raw o rs c 5
    snd4 raw o ss rs c 5
    rcv4 raw o rs c 0
    pure (r a b e)) := by rw [k0_part21_eq_skeleton]; exact ⟨fun a b e => _, fun a b e => rfl⟩

theorem part22_eq (a b e f : BitVec 32) : k0_part22 (F := F) x hx o ho m hm ss rs c a b e f = (do
    rcv4 raw o rs c 1
    rcv4 raw o rs c 2
    rcv4 raw o rs c 3
    rcv4 raw o rs c 4) := k0_part22_eq_skeleton (F := F) ▸ rfl

theorem part23_eq : k0_part23 (F := F) x hx o ho m hm ss rs c = (do
    rcv4 raw o rs c 5
    sent0 raw x m ss c 0
    sent0 raw x m ss c 1
    sent0 raw x m ss c 2
    sent0 raw x m ss c 3
    sent0 raw x m ss c 4) := k0_part23_eq_skeleton (F := F) ▸ rfl

theorem part24_eq : k0_part24 (F := F) x hx o ho m hm ss rs c = (do
    sent0 raw x m ss c 5
    sent1 raw o m ss c 0
    sent1 raw o m ss c 1
    sent1 raw o m ss c 2
    sent1 raw o m ss c 3) := k0_part24_eq_skeleton (F := F) ▸ rfl

theorem part25_eq : k0_part25 (F := F) x hx o ho m hm ss rs c = (do
    sent1 raw o m ss c 4
    sent1 raw o m ss c 5
    sent3 raw o ss c 0
    sent3 raw o ss c 1
    sent3 raw o ss c 2
    sent3 raw o ss c 3) := k0_part25_eq_skeleton (F := F) ▸ rfl

theorem part26_eq : k0_part26 (F := F) x hx o ho m hm ss rs c = (do
    sent3 raw o ss c 4
    sent3 raw o ss c 5
    sent4 raw o ss c 0
    sent4 raw o ss c 1
    sent4 raw o ss c 2
    sent4 raw o ss c 3) := k0_part26_eq_skeleton (F := F) ▸ rfl

/-- Six printed chains are `seq6`. -/
theorem seq6_bind {α : Type} (f : Chain → P F PUnit) (g : P F α) :
    (seq6 f >>= fun _ => g) = (do f 0; f 1; f 2; f 3; f 4; f 5; g) := by
  simp only [seq6, bind_assoc]

theorem body_raw : cc0_body_skel (F := F) x hx o ho m hm ss rs = (do
    let c ← Prog.lift .deviceId
    prog raw x o m ss rs c) := by
  obtain ⟨p, q, r, t, h1⟩ := part1_eq (F := F) x hx o ho m hm ss rs
  unfold cc0_body_skel
  rw [h1]
  simp only [bind_assoc, pure_bind]
  refine congrArg (Prog.lift TpuEff.deviceId >>= ·) (funext fun c => ?_)
  obtain ⟨r2, h2⟩ := part2_eq (F := F) x hx o ho m hm ss rs c
  obtain ⟨r3, h3⟩ := part3_eq (F := F) x hx o ho m hm ss rs c
  obtain ⟨r10, h10⟩ := part10_eq (F := F) x hx o ho m hm ss rs c
  obtain ⟨r13, h13⟩ := part13_eq (F := F) x hx o ho m hm ss rs c
  obtain ⟨r16, h16⟩ := part16_eq (F := F) x hx o ho m hm ss rs c
  obtain ⟨r18, h18⟩ := part18_eq (F := F) x hx o ho m hm ss rs c
  obtain ⟨r21, h21⟩ := part21_eq (F := F) x hx o ho m hm ss rs c
  simp only [h2, h3, h10, h13, h16, h18, h21, part4_eq, part5_eq, part6_eq, part7_eq, part8_eq, part9_eq, part11_eq, part12_eq, part14_eq, part15_eq,
    part17_eq, part19_eq, part20_eq, part22_eq, part23_eq, part24_eq, part25_eq, part26_eq, prog, seq6_bind, seq6, phase1, phase2, phase3, phase4, sum2, sum,
    bind_assoc, pure_bind]
  rfl

/-- The printed body, with its tables in closed form. -/
theorem body_eq : cc0_body (F := F) x hx o ho m hm ss rs = (do
    let c ← Prog.lift .deviceId
    prog tab x o m ss rs c) := by
  rw [cc0_body_eq_skeleton, body_raw, raw_eq]

end

end Cert.CubeProof

end
-- ==== Proof.Regions.lean ====
/-
# Regions: what a device keeps, what it sends, and how they tile a buffer

The sets of elements the chains move, and the arithmetic of their rows: a chain's rows are the half a device keeps
and the half its first partner keeps; the kept half is the quarter it keeps and the quarter its second partner keeps;
its third partner keeps the same quarter. The six chains tile the buffer.
-/
module

public import proofs.«01_k».proof.Proof.Program

@[expose] public section

noncomputable section

namespace Cert.CubeProof

open Cert.KernelIdeal Cert.KernelIdeal.Gen
open Idealize.ShloMosaic Idealize.SL.Sem
open Idealize.ShloMosaic.TcCoe

def RK0 (k : Chain) (c : Dev nD) : Reg := region (row0 k c) (hf k) (colHalf k)
def RS0 (k : Chain) (c : Dev nD) : Reg := RK0 k (pt 0 k c)
def RK1 (k : Chain) (c : Dev nD) : Reg := region (row1 k c) (qt k) (colHalf k)
def RS1 (k : Chain) (c : Dev nD) : Reg := RK1 k (pt 1 k c)
def RC (j : Fin 3) (k : Chain) : Reg := region (base k + (![0, hf k, hf k + qt k] j : ℕ)) (cn j k) (colHalf k)
/-- All the elements of a chain. -/
def RA (k : Chain) : Reg := region (base k) (2 * hf k) (colHalf k)

/-- The elements of a rectangle of the tables are the region of its row and column half. -/
theorem rect_region (r n h : ℕ) (hi : Inb ![r, 256 * h] n) : (rect ![r, 256 * h] n hi).set = region r n h := by
  ext i
  rw [mem_region]
  refine (Rect.mem_set_unit (s := S1024x512)).trans ?_
  rw [Fin.forall_fin_two]
  show (r ≤ (i 0).val ∧ (i 0).val < r + n) ∧ (256 * h ≤ (i 1).val ∧ (i 1).val < 256 * h + 256) ↔ _
  omega

theorem set_off0 (k : Chain) (c : Dev nD) (h : Inb (off0 k c) (hf k)) : (rect (off0 k c) (hf k) h).set = RK0 k c := rect_region _ _ _ h
theorem set_off1 (k : Chain) (c : Dev nD) (h : Inb (off1 k c) (qt k)) : (rect (off1 k c) (qt k) h).set = RK1 k c := rect_region _ _ _ h
theorem set_coff (j : Fin 3) (k : Chain) (h : Inb (coff j k) (cn j k)) : (rect (coff j k) (cn j k) h).set = RC j k := rect_region _ _ _ h

theorem hf_eq (k : Chain) : hf k = 2 * qt k := by revert k; decide
theorem row0_cases (k : Chain) (c : Dev nD) :
    (row0 k c = base k ∧ row0 k (pt 0 k c) = base k + hf k) ∨ (row0 k c = base k + hf k ∧ row0 k (pt 0 k c) = base k) := by
  revert k c; decide +kernel
theorem row1_cases (k : Chain) (c : Dev nD) :
    (row1 k c = row0 k c ∧ row1 k (pt 1 k c) = row0 k c + qt k) ∨ (row1 k c = row0 k c + qt k ∧ row1 k (pt 1 k c) = row0 k c) := by
  revert k c; decide +kernel
theorem off1_pt2 (k : Chain) (c : Dev nD) : off1 k (pt 2 k c) = off1 k c := by revert k c; decide +kernel
theorem off0_pt1 (k : Chain) (c : Dev nD) : off0 k (pt 1 k c) = off0 k c := by revert k c; decide +kernel
theorem row1_pt2 (k : Chain) (c : Dev nD) : row1 k (pt 2 k c) = row1 k c := by revert k c; decide +kernel
theorem row0_pt1 (k : Chain) (c : Dev nD) : row0 k (pt 1 k c) = row0 k c := by revert k c; decide +kernel

theorem RK1_pt2 (k : Chain) (c : Dev nD) : RK1 k (pt 2 k c) = RK1 k c := by unfold RK1; rw [row1_pt2]
theorem RS0_pt0 (k : Chain) (c : Dev nD) : RS0 k (pt 0 k c) = RK0 k c := by unfold RS0; rw [pt_pt]
theorem RS1_pt1 (k : Chain) (c : Dev nD) : RS1 k (pt 1 k c) = RK1 k c := by unfold RS1; rw [pt_pt]

theorem K0_union (k : Chain) (c : Dev nD) : RK1 k c ∪ RS1 k c = RK0 k c := by
  ext i; have h := row1_cases k c; have := hf_eq k
  simp only [RK0, RS1, RK1, Finset.mem_union, mem_region]; omega
theorem K0_disj (k : Chain) (c : Dev nD) : Disjoint (RK1 k c) (RS1 k c) := by
  rw [Finset.disjoint_left]; intro i; have h := row1_cases k c; have := hf_eq k
  simp only [RS1, RK1, mem_region]; omega
theorem A_union (k : Chain) (c : Dev nD) : RK0 k c ∪ RS0 k c = RA k := by
  ext i; have h := row0_cases k c
  simp only [RK0, RS0, RA, Finset.mem_union, mem_region]; omega
theorem A_disj (k : Chain) (c : Dev nD) : Disjoint (RK0 k c) (RS0 k c) := by
  rw [Finset.disjoint_left]; intro i; have h := row0_cases k c
  simp only [RK0, RS0, mem_region]; omega
theorem C_union (k : Chain) : RC 0 k ∪ (RC 1 k ∪ RC 2 k) = RA k := by
  ext i; have := hf_eq k
  simp only [RC, RA, cn, Finset.mem_union, mem_region, Matrix.cons_val_zero, Matrix.cons_val_one, Matrix.cons_val]; omega
theorem C_disj (k : Chain) : Disjoint (RC 0 k) (RC 1 k ∪ RC 2 k) := by
  rw [Finset.disjoint_left]; intro i; have := hf_eq k
  simp only [RC, cn, Finset.mem_union, mem_region, Matrix.cons_val_zero, Matrix.cons_val_one, Matrix.cons_val]; omega
theorem C_disj' (k : Chain) : Disjoint (RC 1 k) (RC 2 k) := by
  rw [Finset.disjoint_left]; intro i; have := hf_eq k
  simp only [RC, cn, mem_region, Matrix.cons_val_zero, Matrix.cons_val_one, Matrix.cons_val]; omega

/-- The chain of an element. -/
def chainOf (i : S1024x512.Idx) : Chain :=
  if (i 1).val / 256 = 0 then (if (i 0).val < 384 then 2 else if (i 0).val < 704 then 0 else 1)
  else (if (i 0).val < 384 then 5 else if (i 0).val < 704 then 3 else 4)

theorem mem_RA (k : Chain) (i : S1024x512.Idx) : i ∈ RA k ↔ chainOf i = k := by
  have h0 : (i 0).val < 1024 := (i 0).isLt
  have h1 : (i 1).val < 512 := (i 1).isLt
  unfold RA chainOf; rw [mem_region]
  fin_cases k <;> simp only [base, hf, colHalf, part, Matrix.cons_val_zero, Matrix.cons_val_one, Matrix.cons_val, Fin.mk_one, Fin.zero_eta, Fin.reduceFinMk] <;>
    (split <;> split <;> (try split)) <;> simp only [Fin.reduceEq, iff_true, iff_false] <;> omega

theorem RA_union : (Finset.univ : Finset Chain).biUnion RA = Finset.univ := by
  ext i; simp only [Finset.mem_biUnion, Finset.mem_univ, true_and, mem_RA, exists_eq', iff_true]
theorem RA_disj : (↑(Finset.univ : Finset Chain) : Set Chain).PairwiseDisjoint RA := by
  intro k _ k' _ hk
  rw [Function.onFun, Finset.disjoint_left]; intro i hi hi'
  rw [mem_RA] at hi hi'; exact hk (hi.symm.trans hi')

end Cert.CubeProof

end
-- ==== Proof.Schedule.lean ====
/-
# The protocol: cells, contents, schedule, levels

Each device has one barrier cell, and for every stage `s` and chain `k` one send cell and one receive cell. Every cell
runs one round.

* Barrier cell of `c`: its three neighbours signal it, one unit each, and `c` waits for three units. The neighbour
  across axis `a` hands over the buffers it is about to be sent into by `c`: the landing slots of the stages whose axis is `a`.
* Send cell `(s, k)` of `c`: `c`'s own copy credits it, `c` waits for it; it hands back what the copy read.
* Receive cell `(s, k)` of `c`: the partner `dst s k c` copies onto it, `c` waits for it; it hands over the landed rows
  with their contents. Stage 1 hands over also the source rows of the partner: the partner reuses them only in stage 3,
  where `c` writes the finished quarter into them.

The contents are stated as whole-buffer functions of the eight devices' blocks `X`: `V1`, `V2`, `V3` are the partial sums
after each of the three accumulating stages, `VG` is what a device has of its kept half after stage 3.
-/
module

public import proofs.«01_k».proof.Proof.Regions

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The memrefs and the cells -/

abbrev xM : Mem := Memref.whole cc0_stg0_0
abbrev oM : Mem := Memref.whole cc0_stg1_0
abbrev mM : Mem := Memref.whole cc0_scratch0

abbrev SK : Type := Stage × Chain
/-- A device's cells: barrier, send, receive. -/
abbrev KC : Type := Unit ⊕ (SK ⊕ SK)

/-- The kernel's own semaphores. -/
def osem : SK ⊕ SK → SemLoc sig
  | .inl p => .dma (semOf cc0_scratch1 p.1 p.2)
  | .inr p => .dma (semOf cc0_scratch2 p.1 p.2)
def csem : KC → SemLoc sig
  | .inl _ => .reg barSem
  | .inr i => osem i

abbrev kcell (c : Dev nD) (i : KC) : GSem nD τ sig := ((c : Thread nD τ), csem i)
abbrev barCell (c : Dev nD) : GSem nD τ sig := ((c : Thread nD τ), .reg barSem)
abbrev sendCell (c : Dev nD) (s : Stage) (k : Chain) : GSem nD τ sig := ((c : Thread nD τ), .dma (semOf cc0_scratch1 s k))
abbrev recvCell (c : Dev nD) (s : Stage) (k : Chain) : GSem nD τ sig := ((c : Thread nD τ), .dma (semOf cc0_scratch2 s k))

theorem semS_inj : ∀ p q : SK, semOf cc0_scratch1 p.1 p.2 = semOf cc0_scratch1 q.1 q.2 → p = q := by decide +kernel
theorem semR_inj : ∀ p q : SK, semOf cc0_scratch2 p.1 p.2 = semOf cc0_scratch2 q.1 q.2 → p = q := by decide +kernel
theorem semS_ne_semR : ∀ p q : SK, semOf cc0_scratch1 p.1 p.2 ≠ semOf cc0_scratch2 q.1 q.2 := by decide +kernel

theorem osem_injective : Function.Injective osem := by
  rintro (p | p) (q | q) h
  · rw [semS_inj p q (SemLoc.dma.inj h)]
  · exact absurd (SemLoc.dma.inj h) (semS_ne_semR p q)
  · exact absurd (SemLoc.dma.inj h).symm (semS_ne_semR q p)
  · rw [semR_inj p q (SemLoc.dma.inj h)]
theorem osem_ne_bar (i : SK ⊕ SK) : osem i ≠ .reg barSem := by rcases i with p | p <;> exact fun h => by cases h
theorem csem_injective : Function.Injective csem := by
  rintro (⟨⟩ | i) (⟨⟩ | j) h
  · rfl
  · exact absurd h.symm (osem_ne_bar j)
  · exact absurd h (osem_ne_bar i)
  · rw [osem_injective h]

/-- The cell a semaphore is. -/
def decode : SemLoc sig → Option KC := Function.partialInv csem
theorem decode_csem (i : KC) : decode (csem i) = some i := Function.partialInv_left csem_injective i
theorem decode_none (s : SemLoc sig) (h : ∀ i, csem i ≠ s) : decode s = none := by
  unfold decode Function.partialInv; exact dif_neg fun ⟨i, hi⟩ => h i hi

/-! ## The credits -/

/-- The rows a stage moves. -/
def sn (s : Stage) (k : Chain) : ℕ := ![hf k, qt k, qt k, qt k, hf k] s
theorem sn_inb (s : Stage) (k : Chain) : Inb ![0, 0] (sn s k) := by
  unfold Inb; revert s k; decide
/-- What a stage's copy credits. -/
def N (s : Stage) (k : Chain) : ℕ := (sl xM ![0, 0] (sn s k) (sn_inb s k)).view.dmaCredit
theorem N_pos (s : Stage) (k : Chain) : 0 < N s k :=
  View.dmaCredit_pos _ (n_pos (by unfold sn; revert s k; decide))

/-! ## Contents -/

abbrev Con (F : FTy → Type) := FVec F S1024x512 .f32

section
variable (X : Dev nD → Con F)

def V1 (k : Chain) (c : Dev nD) : Con F := addf (X c) (X (pt 0 k c))
def V2 (k : Chain) (c : Dev nD) : Con F := addf (V1 X k c) (V1 X k (pt 1 k c))
def V3 (k : Chain) (c : Dev nD) : Con F := addf (V2 X k c) (V2 X k (pt 2 k c))
def VG (k : Chain) (c : Dev nD) : Con F := fun i => if i ∈ RK1 k c then V3 X k c i else V3 X k (pt 1 k c) i
/-- What the kernel leaves in device `c`'s result. -/
def VOut (c : Dev nD) : Con F := fun i =>
  if i ∈ RK0 (chainOf i) c then VG X (chainOf i) c i else VG X (chainOf i) (pt 0 (chainOf i) c) i

end

/-! ## Points-to facts -/

def xP (c : Dev nD) (S : Reg) (q : PosShare TreeShare) (f : Con F) : sProp 𝕄 := ((c : Thread nD τ).loc cc0_stg0_0) ↦[S]{q} f
def oP (c : Dev nD) (S : Reg) (q : PosShare TreeShare) (f : Con F) : sProp 𝕄 := ((c : Thread nD τ).loc cc0_stg1_0) ↦[S]{q} f
def mP (c : Dev nD) (S : Reg) (q : PosShare TreeShare) (f : Con F) : sProp 𝕄 := ((c : Thread nD τ).loc cc0_scratch0) ↦[S]{q} f
def oAny (c : Dev nD) (S : Reg) : sProp 𝕄 := iprop(∃ f : Con F, oP c S fullShare f)
def mAny (c : Dev nD) (S : Reg) : sProp 𝕄 := iprop(∃ f : Con F, mP c S fullShare f)

omit [FloatOps F] in
instance xP_storable (c S q) (f : Con F) : BI.Storable (upEmb : UEmb _ 𝕄) (xP (F := F) c S q f) := by unfold xP; infer_instance
omit [FloatOps F] in
instance oP_storable (c S q) (f : Con F) : BI.Storable (upEmb : UEmb _ 𝕄) (oP (F := F) c S q f) := by unfold oP; infer_instance
omit [FloatOps F] in
instance mP_storable (c S q) (f : Con F) : BI.Storable (upEmb : UEmb _ 𝕄) (mP (F := F) c S q f) := by unfold mP; infer_instance
omit [FloatOps F] in
instance oAny_storable (c S) : BI.Storable (upEmb : UEmb _ 𝕄) (oAny (F := F) c S) := by unfold oAny; infer_instance
omit [FloatOps F] in
instance mAny_storable (c S) : BI.Storable (upEmb : UEmb _ 𝕄) (mAny (F := F) c S) := by unfold mAny; infer_instance

/-- The contents `f` of the landing buffer hold, at the slot `co`, the rows `off` of `V`. -/
def Lands (n : ℕ) (co off : Off) (hc : Inb co n) (ho : Inb off n) (f V : Con F) : Prop :=
  ∀ j : (Sn n).Idx, f ((rect co n hc).emb j) = V ((rect off n ho).emb j)

/-- The landing slot `j` of chain `k` on `c`, holding the rows of `V` that `c` keeps. -/
def mL (j : Fin 3) (k : Chain) (c : Dev nD) (off : Off) (ho : Inb off (cn j k)) (V : Con F) : sProp 𝕄 :=
  iprop(∃ f : Con F, ⌜Lands (cn j k) (coff j k) off (coff_inb j k) ho f V⌝ ∗ mP c (RC j k) fullShare f)
omit [FloatOps F] in
instance mL_storable (j k c off ho) (V : Con F) : BI.Storable (upEmb : UEmb _ 𝕄) (mL (F := F) j k c off ho V) := by unfold mL; infer_instance

theorem inb0 (k : Chain) (c : Dev nD) : Inb (off0 k c) (cn 0 k) := off0_inb k c
theorem inb1 (k : Chain) (c : Dev nD) : Inb (off1 k c) (cn 1 k) := off1_inb k c
theorem inb2 (k : Chain) (c : Dev nD) : Inb (off1 k c) (cn 2 k) := off1_inb k c

section
variable (X : Dev nD → Con F)

/-- What a device `d` lets its partner of slot `j` copy into. -/
def hand (k : Chain) (j : Fin 3) (d : Dev nD) : sProp 𝕄 :=
  match j with
  | 0 => iprop(mAny d (RC 0 k) ∗ oAny d (RS0 k d))
  | 1 => mAny d (RC 1 k)
  | 2 => mAny d (RC 2 k)
omit [FloatOps F] in
instance hand_storable (k j d) : BI.Storable (upEmb : UEmb _ 𝕄) (hand (F := F) k j d) := by
  unfold hand; split <;> infer_instance

/-- The neighbour of `c` across axis `a` hands over, for every chain, the slot whose axis is `a`. -/
def barPay (c : Dev nD) (a : Fin 3) : sProp 𝕄 := bigSep Finset.univ fun k : Chain => hand k (a - part k) (par a c)
omit [FloatOps F] in
instance barPay_storable (c a) : BI.Storable (upEmb : UEmb _ 𝕄) (barPay (F := F) c a) := by unfold barPay; infer_instance

def recvPay (c : Dev nD) (s : Stage) (k : Chain) : sProp 𝕄 :=
  match s with
  | 0 => mL 0 k c (off0 k c) (inb0 k c) (X (pt 0 k c))
  | 1 => iprop(mL 1 k c (off1 k c) (inb1 k c) (V1 X k (pt 1 k c)) ∗ oAny (pt 1 k c) (RK1 k c))
  | 2 => mL 2 k c (off1 k c) (inb2 k c) (V2 X k (pt 2 k c))
  | 3 => oP c (RS1 k c) fullShare (V3 X k (pt 1 k c))
  | 4 => oP c (RS0 k c) fullShare (VG X k (pt 0 k c))
def sendPay (c : Dev nD) (s : Stage) (k : Chain) : sProp 𝕄 :=
  match s with
  | 0 => xP c (RS0 k c) fullShare (X c)
  | 1 => iprop(emp)
  | 2 => oP c (RK1 k c) fullShare (V2 X k c)
  | 3 => oP c (RK1 k c) fullShare.left (V3 X k c)
  | 4 => oP c (RK0 k c) fullShare.right (VG X k c)
instance recvPay_storable (c s k) : BI.Storable (upEmb : UEmb _ 𝕄) (recvPay X c s k) := by
  unfold recvPay; split <;> infer_instance
instance sendPay_storable (c s k) : BI.Storable (upEmb : UEmb _ 𝕄) (sendPay X c s k) := by
  unfold sendPay; split <;> infer_instance

/-! ## The schedule -/

def kDuties : Option KC → Finset (Fin 3)
  | some (.inl _) => Finset.univ
  | some (.inr _) => {0}
  | none => ∅
def kAmount : Option KC → ℕ
  | some (.inl _) => 1
  | some (.inr (.inl p)) => N p.1 p.2
  | some (.inr (.inr p)) => N p.1 p.2
  | none => 1
def kPay (c : Dev nD) (d : Fin 3) : Option KC → sProp 𝕄
  | some (.inl _) => barPay c d
  | some (.inr (.inl p)) => sendPay X c p.1 p.2
  | some (.inr (.inr p)) => recvPay X c p.1 p.2
  | none => iprop(emp)

def cubeRd : Rounds.Schedule (GSem nD τ sig) (Fin 3) 𝕄 where
  duties g r := if r = 0 ∧ g.1.2 = .tc then kDuties (decode g.2) else ∅
  unitless _ := False
  amount g _ _ := kAmount (decode g.2)
  payload g _ d := kPay X g.1.1 d (decode g.2)
  amount_pos g _ _ _ := by
    rcases decode g.2 with _ | _ | _ | _
    · exact Nat.one_pos
    · exact Nat.one_pos
    · exact N_pos _ _
    · exact N_pos _ _

instance cubeRd_payload_storable (g : GSem nD τ sig) (r : ℕ) (d : Fin 3) :
    BI.Storable (upEmb : UEmb _ 𝕄) ((cubeRd X).payload g r d) := by
  show BI.Storable upEmb (kPay X g.1.1 d (decode g.2))
  unfold kPay
  split <;> infer_instance

section Sched
variable (c : Dev nD) (s : Stage) (k : Chain)

theorem decode_bar : decode (.reg barSem) = some (.inl ()) := decode_csem (.inl ())
theorem decode_send : decode (.dma (semOf cc0_scratch1 s k)) = some (.inr (.inl (s, k))) := decode_csem (.inr (.inl (s, k)))
theorem decode_recv : decode (.dma (semOf cc0_scratch2 s k)) = some (.inr (.inr (s, k))) := decode_csem (.inr (.inr (s, k)))

theorem duties_bar : (cubeRd X).duties (barCell c) 0 = Finset.univ := by dsimp only [cubeRd]; rw [decode_bar]; exact if_pos ⟨rfl, rfl⟩
theorem duties_send : (cubeRd X).duties (sendCell c s k) 0 = {0} := by dsimp only [cubeRd]; rw [decode_send]; exact if_pos ⟨rfl, rfl⟩
theorem duties_recv : (cubeRd X).duties (recvCell c s k) 0 = {0} := by dsimp only [cubeRd]; rw [decode_recv]; exact if_pos ⟨rfl, rfl⟩
theorem duties_later (g : GSem nD τ sig) : ∀ r, 1 ≤ r → (cubeRd X).duties g r = ∅ :=
  fun r hr => by dsimp only [cubeRd]; rw [if_neg fun h => by omega]

theorem amount_bar (d : Fin 3) : (cubeRd X).amount (barCell c) 0 d = 1 := by dsimp only [cubeRd]; rw [decode_bar]; rfl
theorem amount_send (d : Fin 3) : (cubeRd X).amount (sendCell c s k) 0 d = N s k := by dsimp only [cubeRd]; rw [decode_send]; rfl
theorem amount_recv (d : Fin 3) : (cubeRd X).amount (recvCell c s k) 0 d = N s k := by dsimp only [cubeRd]; rw [decode_recv]; rfl

theorem expect_bar : (cubeRd X).expect (barCell c) 0 = 3 := by
  unfold Schedule.expect Schedule.amountOf
  rw [duties_bar, Finset.sum_congr rfl fun d _ => amount_bar X c d, Finset.sum_const, Finset.card_univ, Fintype.card_fin, smul_eq_mul]
theorem expect_send : (cubeRd X).expect (sendCell c s k) 0 = N s k := by
  unfold Schedule.expect Schedule.amountOf; rw [duties_send, Finset.sum_singleton, amount_send]
theorem expect_recv : (cubeRd X).expect (recvCell c s k) 0 = N s k := by
  unfold Schedule.expect Schedule.amountOf; rw [duties_recv, Finset.sum_singleton, amount_recv]

theorem payload_bar (d : Fin 3) : (cubeRd X).payload (barCell c) 0 d = barPay c d := by dsimp only [cubeRd]; rw [decode_bar]; rfl
theorem payload_send (d : Fin 3) : (cubeRd X).payload (sendCell c s k) 0 d = sendPay X c s k := by dsimp only [cubeRd]; rw [decode_send]; rfl
theorem payload_recv (d : Fin 3) : (cubeRd X).payload (recvCell c s k) 0 d = recvPay X c s k := by dsimp only [cubeRd]; rw [decode_recv]; rfl

theorem rest_bar : bigSep ((cubeRd X).duties (barCell c) 0 \ ∅) (fun d => (cubeRd X).payload (barCell c) 0 d) = bigSep Finset.univ (barPay (F := F) c) := by
  rw [Finset.sdiff_empty, duties_bar]; exact bigSep_congr fun d _ => payload_bar X c d
theorem rest_send : bigSep ((cubeRd X).duties (sendCell c s k) 0 \ ∅) (fun d => (cubeRd X).payload (sendCell c s k) 0 d) = sendPay X c s k := by
  rw [Finset.sdiff_empty, duties_send, bigSep_singleton, payload_send]
theorem rest_recv : bigSep ((cubeRd X).duties (recvCell c s k) 0 \ ∅) (fun d => (cubeRd X).payload (recvCell c s k) 0 d) = recvPay X c s k := by
  rw [Finset.sdiff_empty, duties_recv, bigSep_singleton, payload_recv]

end Sched

end

/-! ## What a device owes; the levels -/

/-- The credits device `c` still has to pay by its copies, from the `n`-th copy on (the copies in the program's order). -/
def owe (c : Dev nD) (n : ℕ) : CellTallies nD τ sig Unit :=
  ∑ p ∈ (Finset.univ : Finset SK).filter (fun p => n ≤ 6 * p.1.val + p.2.val), tallyAt (recvCell (dst p.1 p.2 c) p.1 p.2) () (N p.1 p.2)

theorem owe_peel (c : Dev nD) (s : Stage) (k : Chain) :
    owe c (6 * s.val + k.val) = owe c (6 * s.val + k.val + 1) + tallyAt (recvCell (dst s k c) s k) () (N s k) := by
  unfold owe
  have h : (Finset.univ : Finset SK).filter (fun p => 6 * s.val + k.val ≤ 6 * p.1.val + p.2.val)
      = insert (s, k) ((Finset.univ : Finset SK).filter (fun p => 6 * s.val + k.val + 1 ≤ 6 * p.1.val + p.2.val)) := by
    ext ⟨s', k'⟩
    simp only [Finset.mem_filter, Finset.mem_univ, true_and, Finset.mem_insert, Prod.mk.injEq, Fin.ext_iff]
    have := s.isLt; have := k.isLt; have := s'.isLt; have := k'.isLt
    omega
  rw [h, Finset.sum_insert (by simp), add_comm]

theorem owe_end (c : Dev nD) : owe c 30 = 0 := by
  unfold owe
  rw [Finset.filter_eq_empty_iff.mpr, Finset.sum_empty]
  rintro ⟨s, k⟩ -
  have := s.isLt; have := k.isLt
  show ¬ (30 ≤ 6 * s.val + k.val)
  omega

/-- At launch also the three barrier signals. -/
def owe₀ (c : Dev nD) : CellTallies nD τ sig Unit :=
  owe c 0 + tallyAt (barCell (par 2 c)) () 1 + tallyAt (barCell (par 1 c)) () 1 + tallyAt (barCell (par 0 c)) () 1

theorem tally_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem owe_pos {c : Dev nD} {n : ℕ} {g : GSem nD τ sig} {u : Unit} (h : 0 < owe c n g u) :
    ∃ s k, g = recvCell (dst s k c) s k ∧ n ≤ 6 * s.val + k.val := by
  unfold owe at h
  rw [Finset.sum_apply, Finsupp.finset_sum_apply] at h
  obtain ⟨p, hp, hpos⟩ := Finset.exists_ne_zero_of_sum_ne_zero h.ne'
  exact ⟨p.1, p.2, tally_pos (Nat.pos_of_ne_zero hpos), (Finset.mem_filter.mp hp).2⟩

theorem owe₀_pos {c : Dev nD} {g : GSem nD τ sig} {u : Unit} (h : 0 < owe₀ c g u) :
    (∃ s k, g = recvCell (dst s k c) s k) ∨ ∃ a, g = barCell (par a c) := by
  unfold owe₀ at h
  simp only [Pi.add_apply, Finsupp.add_apply] at h
  by_contra hn
  rw [not_or] at hn
  have h0 : owe c 0 g u = 0 := Nat.eq_zero_of_not_pos fun h' => hn.1 (let ⟨s, k, e, _⟩ := owe_pos h'; ⟨s, k, e⟩)
  have hb (a : Fin 3) : tallyAt (barCell (par a c)) () 1 g u = 0 := Nat.eq_zero_of_not_pos fun h' => hn.2 ⟨a, tally_pos h'⟩
  rw [h0, hb, hb, hb] at h
  exact Nat.lt_irrefl 0 h

def L (g : GSem nD τ sig) : Finset Unit := if g.1.2 = .tc then {()} else ∅
def kLv : Option KC → ℕ
  | some (.inl _) => 1
  | some (.inr (.inr p)) => 2 + p.1.val
  | _ => 0
def lv (g : GSem nD τ sig) (_ : Unit) : ℕ := kLv (decode g.2)

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; rw [decode_bar]; rfl
theorem lv_send (c : Dev nD) (s : Stage) (k : Chain) (u : Unit) : lv (sendCell c s k) u = 0 := by unfold lv; rw [decode_send]; rfl
theorem lv_recv (c : Dev nD) (s : Stage) (k : Chain) (u : Unit) : lv (recvCell c s k) u = 2 + s.val := by unfold lv; rw [decode_recv]; rfl

omit [FloatOps F] in
theorem mayWait_owe (c : Dev nD) (sm : SemLoc sig) (n l : ℕ) (hl : lv ((c : Thread nD τ), sm) () ≤ l) (hn : 6 * l ≤ n + 6) :
    (levAts L lv : sProp 𝕄) ⊢ MayWait (c : Thread nD τ) sm () (owe c n) :=
  MayOwe.of_cut (L := L) (lev := lv) l (fun p hp => by rw [Finset.mem_singleton.mp hp, L_tc]; exact Finset.mem_singleton_self _)
    (fun g u hg => by obtain ⟨s, k, rfl, -⟩ := owe_pos hg; exact Finset.mem_singleton_self _)
    (fun p hp => by rw [Finset.mem_singleton.mp hp]; exact hl)
    (fun g u hg => by
      obtain ⟨s, k, rfl, h⟩ := owe_pos hg
      rw [lv_recv]; have := k.isLt; omega)

omit [FloatOps F] in
theorem mayWait_stage (c : Dev nD) (q : DmaSem sig) (hq : ∀ i, osem i ≠ .dma q) (O : CellTallies nD τ sig Unit) (hO : O = owe₀ c ∨ O = 0) :
    (levAts L lv : sProp 𝕄) ⊢ MayWait (c : Thread nD τ) (.dma q) () O := by
  have hd : decode (.dma q) = none := decode_none _ (by rintro (_ | i); · exact fun h => by cases h
                                                        · exact hq i)
  rcases hO with rfl | rfl
  · refine MayOwe.of_cut (L := L) (lev := lv) 0 (fun p hp => by rw [Finset.mem_singleton.mp hp, L_tc]; exact Finset.mem_singleton_self _)
      (fun g u hg => by rcases owe₀_pos hg with ⟨s, k, rfl⟩ | ⟨a, rfl⟩ <;> exact Finset.mem_singleton_self _)
      (fun p hp => by rw [Finset.mem_singleton.mp hp]; unfold lv; rw [hd]; exact le_refl 0)
      (fun g u hg => by
        rcases owe₀_pos hg with ⟨s, k, rfl⟩ | ⟨a, rfl⟩
        · rw [lv_recv]; omega
        · rw [lv_bar]; decide)
  · rw [MayWait_zero]; iintro -; iempintro

end Cert.CubeProof

end
-- ==== Proof.Ops.lean ====
/-
# One operation of a chain at a time

What the invariants of all cells give (`recs`), and for each kind of operation — a copy, a wait, a sum of loads, a store —
its triple in the terms of the schedule.
-/
module

public import proofs.«01_k».proof.Proof.Schedule
public import Idealize.ShloMosaic.Lib.Pipeline.Value

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The weakest precondition of a program on device `c`. -/
abbrev wpc (c : Dev nD) {α : Type} (p : P F α) (Q : α → sProp 𝕄) : sProp 𝕄 :=
  wp frame (wpE (defs₀ (F := F)) 𝒱₀ (c : Thread nD τ) none) Set.univ p Q

/-- A triple, then the rest of the program. -/
theorem wpc_seq {c : Dev nD} {α β : Type} {p : P F α} {k : α → P F β} {A : sProp 𝕄} {B : α → sProp 𝕄} {Q : β → sProp 𝕄}
    (h : A ⊢ wpc c p B) : A ⊢ iprop((∀ a, B a -∗ wpc c (k a) Q) -∗ wpc c (p >>= k) Q) := by
  unfold wpc
  rw [wp_bind]
  exact h.trans (wp_wand _ _ _)
/-- A triple at the end of the program. -/
theorem wpc_last {c : Dev nD} {α : Type} {p : P F α} {A : sProp 𝕄} {B Q : α → sProp 𝕄}
    (h : A ⊢ wpc c p B) : A ⊢ iprop((∀ a, B a -∗ Q a) -∗ wpc c p Q) :=
  h.trans (wp_wand _ _ _)

variable (X : Dev nD → Con F) (K : Dev nD × KC → ℕ)

/-- The invariants of all cells, all at round 0 or later, and the levels. -/
def recs : sProp 𝕄 :=
  iprop(((bigSep Finset.univ fun ci : Dev nD × KC => cellInv ER (cubeRd X) (K ci) (kcell ci.1 ci.2))
    ∗ bigSep Finset.univ fun ci : Dev nD × KC => reached ER (kcell ci.1 ci.2) 0) ∗ levAts L lv)

instance recs_persistent : BI.Persistent (recs X K) := by unfold recs; infer_instance

theorem recs_inv (c : Dev nD) (i : KC) : recs X K ⊢ cellInv ER (cubeRd X) (K (c, i)) (kcell c i) := by
  unfold recs
  iintro ⟨⟨H, -⟩, -⟩
  have h : (bigSep Finset.univ fun ci : Dev nD × KC => (cellInv ER (cubeRd X) (K ci) (kcell ci.1 ci.2) : sProp 𝕄)) ⊢ cellInv ER (cubeRd X) (K (c, i)) (kcell c i) :=
    bigSep_elim (Finset.mem_univ (c, i))
  iapply h; iexact H
theorem recs_reached (c : Dev nD) (i : KC) : recs X K ⊢ reached ER (kcell c i) 0 := by
  unfold recs
  iintro ⟨⟨-, H⟩, -⟩
  have h : (bigSep Finset.univ fun ci : Dev nD × KC => (reached ER (kcell ci.1 ci.2) 0 : sProp 𝕄)) ⊢ reached ER (kcell c i) 0 :=
    bigSep_elim (Finset.mem_univ (c, i))
  iapply h; iexact H
theorem recs_lev : recs X K ⊢ levAts L lv := by
  unfold recs
  iintro ⟨-, H⟩
  iexact H

/-- What `c` owes before its `n`-th copy, at whatever waits it has done. -/
def ow (c : Dev nD) (n : ℕ) : sProp 𝕄 := iprop(∃ W : Waits sig Unit, owes (c : Thread nD τ) (owe c n) W)

/-- The tokens of a copy's two duties. -/
def tokS (c : Dev nD) (s : Stage) (k : Chain) : sProp 𝕄 :=
  iprop(dutyTok ER (sendCell c s k) 0 0 ∗ dutyTok ER (recvCell (dst s k c) s k) 0 0)
/-- What a wait on a receive cell takes. -/
def tokR (c : Dev nD) (s : Stage) (k : Chain) : sProp 𝕄 :=
  iprop(atPos ER (recvCell c s k) 0 ∅ 0 ∗ cred (tallyAt (recvCell c s k) () (N s k)))
/-- What a wait on a send cell takes, besides the credit its copy gave. -/
def tokW (c : Dev nD) (s : Stage) (k : Chain) : sProp 𝕄 := atPos ER (sendCell c s k) 0 ∅ 0
def credS (c : Dev nD) (s : Stage) (k : Chain) : sProp 𝕄 := cred (tallyAt (sendCell c s k) () (N s k))
def zS (c : Dev nD) (s : Stage) (k : Chain) : sProp 𝕄 := semVal (sendCell c s k) 0
def zR (c : Dev nD) (s : Stage) (k : Chain) : sProp 𝕄 := semVal (recvCell c s k) 0

section Copy
variable (c : Dev nD) (s : Stage) (k : Chain)

/-- A copy, the source to come back with the send credit. -/
theorem wp_copy (A B : Mem) (n : ℕ) (a b : Off) (ha : Inb a n) (hb : Inb b n) (d : Dev nD) (hd : d = dst s k c) (q : PosShare TreeShare)
    (fs : Buf (Elt F) ((sl A a n ha).view.loc (c : Thread nD τ))) (fd : Buf (Elt F) ((sl B b n hb).view.loc ((dst s k c) : Thread nD τ)))
    (hN : (sl B b n hb).view.amount (.dma (semOf cc0_scratch2 s k)) = N s k)
    (hp₁ : ((sl A a n ha).view.loc (c : Thread nD τ) ↦[(sl A a n ha).view.set]{q} fs) ⊢ sendPay X c s k)
    (hp₂ : ((sl B b n hb).view.loc ((dst s k c) : Thread nD τ) ↦[(sl B b n hb).view.set]{fullShare}
        ((sl B b n hb).view.write (Elt F) fd ((sl A a n ha).view.read (Elt F) fs) Finset.univ)) ⊢ recvPay X (dst s k c) s k) :
    iprop(recs X K ∗ ow c (6 * s.val + k.val) ∗ tokS c s k
        ∗ ((sl A a n ha).view.loc (c : Thread nD τ) ↦[(sl A a n ha).view.set]{q} fs)
        ∗ ((sl B b n hb).view.loc ((dst s k c) : Thread nD τ) ↦[(sl B b n hb).view.set]{fullShare} fd))
      ⊢ wpc c (copy A B (semOf cc0_scratch1 s k) (semOf cc0_scratch2 s k) n a b ha hb d)
          (fun _ => iprop(ow c (6 * s.val + k.val + 1) ∗ credS c s k)) := by
  subst hd
  unfold ow tokS copy
  iintro ⟨#HR, ⟨%W, HO⟩, ⟨Ht1, Ht2⟩, Hs, Hd⟩
  simp only [Prog.lift]
  iapply (Rounds.wp_send_pointsTo 𝒱₀ ER (cubeRd X) (c : Thread nD τ) none (κ₁ := K (c, .inr (.inl (s, k)))) (κ₂ := K (dst s k c, .inr (.inr (s, k))))
    (r₁ := 0) (r₂ := 0) (d₁ := 0) (d₂ := 0) (fd := fd)
    (by rw [duties_send]; exact Finset.mem_singleton_self _) (by rw [duties_recv]; exact Finset.mem_singleton_self _)
    () () (N s k) hN (amount_send X c s k 0) (amount_recv X (dst s k c) s k 0) (owe c (6 * s.val + k.val + 1)) (owe_peel c s k) (W := W)
    (by rw [payload_send]; exact hp₁)
    (by rw [payload_recv]; exact hp₂)) $$ [HO Ht1 Ht2 Hs Hd]
  · isplitr; · iapply (recs_inv X K c (.inr (.inl (s, k)))); iexact HR
    isplitr; · iapply (recs_inv X K (dst s k c) (.inr (.inr (s, k)))); iexact HR
    isplitl [Hs]; · iexact Hs
    isplitl [Hd]; · iexact Hd
    isplitl [HO]; · iexact HO
    isplitl [Ht1]; · iexact Ht1
    isplitr; · iapply (recs_reached X K c (.inr (.inl (s, k)))); iexact HR
    isplitl [Ht2]; · iexact Ht2
    iapply (recs_reached X K (dst s k c) (.inr (.inr (s, k)))); iexact HR
  iintro ⟨Hc, HO⟩
  rw [wp_ret]; imodintro
  isplitl [HO]; · iexists W; iexact HO
  unfold credS; iexact Hc

/-- A copy, the source to go with the landing. -/
theorem wp_copy_landing (A B : Mem) (n : ℕ) (a b : Off) (ha : Inb a n) (hb : Inb b n) (d : Dev nD) (hd : d = dst s k c) (q : PosShare TreeShare)
    (fs : Buf (Elt F) ((sl A a n ha).view.loc (c : Thread nD τ))) (fd : Buf (Elt F) ((sl B b n hb).view.loc ((dst s k c) : Thread nD τ)))
    (hN : (sl B b n hb).view.amount (.dma (semOf cc0_scratch2 s k)) = N s k)
    (hp₁ : (emp : sProp 𝕄) ⊢ sendPay X c s k)
    (hp₂ : iprop(((sl B b n hb).view.loc ((dst s k c) : Thread nD τ) ↦[(sl B b n hb).view.set]{fullShare}
        ((sl B b n hb).view.write (Elt F) fd ((sl A a n ha).view.read (Elt F) fs) Finset.univ))
        ∗ ((sl A a n ha).view.loc (c : Thread nD τ) ↦[(sl A a n ha).view.set]{q} fs)) ⊢ recvPay X (dst s k c) s k) :
    iprop(recs X K ∗ ow c (6 * s.val + k.val) ∗ tokS c s k
        ∗ ((sl A a n ha).view.loc (c : Thread nD τ) ↦[(sl A a n ha).view.set]{q} fs)
        ∗ ((sl B b n hb).view.loc ((dst s k c) : Thread nD τ) ↦[(sl B b n hb).view.set]{fullShare} fd))
      ⊢ wpc c (copy A B (semOf cc0_scratch1 s k) (semOf cc0_scratch2 s k) n a b ha hb d)
          (fun _ => iprop(ow c (6 * s.val + k.val + 1) ∗ credS c s k)) := by
  subst hd
  unfold ow tokS copy
  iintro ⟨#HR, ⟨%W, HO⟩, ⟨Ht1, Ht2⟩, Hs, Hd⟩
  simp only [Prog.lift]
  iapply (Rounds.wp_send_landing_pointsTo 𝒱₀ ER (cubeRd X) (c : Thread nD τ) none (κ₁ := K (c, .inr (.inl (s, k)))) (κ₂ := K (dst s k c, .inr (.inr (s, k))))
    (r₁ := 0) (r₂ := 0) (d₁ := 0) (d₂ := 0) (fd := fd)
    (by rw [duties_send]; exact Finset.mem_singleton_self _) (by rw [duties_recv]; exact Finset.mem_singleton_self _)
    () () (N s k) hN (amount_send X c s k 0) (amount_recv X (dst s k c) s k 0) (owe c (6 * s.val + k.val + 1)) (owe_peel c s k) (W := W)
    (by rw [payload_send]; exact hp₁)
    (by rw [payload_recv]; exact hp₂)) $$ [HO Ht1 Ht2 Hs Hd]
  · isplitr; · iapply (recs_inv X K c (.inr (.inl (s, k)))); iexact HR
    isplitr; · iapply (recs_inv X K (dst s k c) (.inr (.inr (s, k)))); iexact HR
    isplitl [Hs]; · iexact Hs
    isplitl [Hd]; · iexact Hd
    isplitl [HO]; · iexact HO
    isplitl [Ht1]; · iexact Ht1
    isplitr; · iapply (recs_reached X K c (.inr (.inl (s, k)))); iexact HR
    isplitl [Ht2]; · iexact Ht2
    iapply (recs_reached X K (dst s k c) (.inr (.inr (s, k)))); iexact HR
  iintro ⟨Hc, HO⟩
  rw [wp_ret]; imodintro
  isplitl [HO]; · iexists W; iexact HO
  unfold credS; iexact Hc

/-- A wait for a landing: the payload, and the cell closed. -/
theorem wp_await_recv (A B : Mem) (n : ℕ) (a b : Off) (ha : Inb a n) (hb : Inb b n) (t : ℕ)
    (hN : (sl B b n hb).view.dmaCredit = N s k) (ht : 6 * (2 + s.val) ≤ t + 6) :
    iprop(recs X K ∗ ow c t ∗ tokR c s k)
      ⊢ wpc c (await (semOf cc0_scratch2 s k) A B n a b ha hb) (fun _ => iprop(ow c t ∗ recvPay X c s k ∗ zR c s k)) := by
  unfold ow tokR await
  iintro ⟨#HR, ⟨%W, HO⟩, Hat, Hc⟩
  simp only [Prog.lift]
  ihave #HI := (recs_inv X K c (.inr (.inr (s, k)))) $$ HR
  iapply (Rounds.wp_wait_rest_token 𝒱₀ ER (cubeRd X) (c : Thread nD τ) none (κ := K (c, .inr (.inr (s, k))))
      (wpE_waitDma2_eq 𝒱₀ (c : Thread nD τ) none Set.univ) (Set.mem_univ _) () (O := owe c t) (W := W) (R := 0) (m := 0) (T := ∅)
      (by rw [Nat.zero_add, expect_recv]; exact hN)) $$ [Hc HO Hat]
  · isplitr; · iexact HI
    isplitl [Hc]; · rw [hN]; iexact Hc
    isplitl [HO]; · iexact HO
    isplitr
    · iapply (mayWait_owe c _ t (2 + s.val) (le_of_eq (lv_recv c s k ())) ht); iapply (recs_lev X K); iexact HR
    iexact Hat
  iintro ⟨HO, Hat, -, Hpay⟩
  rw [wp_ret]
  ihave Hpay := (Entails.of_eq (rest_recv X c s k)) $$ Hpay
  imod (Rounds.cell_close ER (cubeRd X) (Set.mem_univ (K (c, .inr (.inr (s, k))))) (fun h => h) (R := 0 + 1) (duties_later X (recvCell c s k))) $$ [Hat] with Hz
  · isplitr; · iexact HI
    iexact Hat
  imodintro
  isplitl [HO]; · iexists _; iexact HO
  isplitl [Hpay]; · iexact Hpay
  unfold zR; iexact Hz

/-- A wait for a copy's own credit. -/
theorem wp_await_send (A B : Mem) (n : ℕ) (a b : Off) (ha : Inb a n) (hb : Inb b n) (t : ℕ)
    (hN : (sl B b n hb).view.dmaCredit = N s k) :
    iprop(recs X K ∗ ow c t ∗ tokW c s k ∗ credS c s k)
      ⊢ wpc c (await (semOf cc0_scratch1 s k) A B n a b ha hb) (fun _ => iprop(ow c t ∗ sendPay X c s k ∗ zS c s k)) := by
  unfold ow tokW credS await
  iintro ⟨#HR, ⟨%W, HO⟩, Hat, Hc⟩
  simp only [Prog.lift]
  ihave #HI := (recs_inv X K c (.inr (.inl (s, k)))) $$ HR
  iapply (Rounds.wp_wait_rest_token 𝒱₀ ER (cubeRd X) (c : Thread nD τ) none (κ := K (c, .inr (.inl (s, k))))
      (wpE_waitDma2_eq 𝒱₀ (c : Thread nD τ) none Set.univ) (Set.mem_univ _) () (O := owe c t) (W := W) (R := 0) (m := 0) (T := ∅)
      (by rw [Nat.zero_add, expect_send]; exact hN)) $$ [Hc HO Hat]
  · isplitr; · iexact HI
    isplitl [Hc]; · rw [hN]; iexact Hc
    isplitl [HO]; · iexact HO
    isplitr
    · iapply (mayWait_owe c _ t 0 (le_of_eq (lv_send c s k ())) (by omega)); iapply (recs_lev X K); iexact HR
    iexact Hat
  iintro ⟨HO, Hat, -, Hpay⟩
  rw [wp_ret]
  ihave Hpay := (Entails.of_eq (rest_send X c s k)) $$ Hpay
  imod (Rounds.cell_close ER (cubeRd X) (Set.mem_univ (K (c, .inr (.inl (s, k))))) (fun h => h) (R := 0 + 1) (duties_later X (sendCell c s k))) $$ [Hat] with Hz
  · isplitr; · iexact HI
    iexact Hat
  imodintro
  isplitl [HO]; · iexists _; iexact HO
  isplitl [Hpay]; · iexact Hpay
  unfold zS; iexact Hz

end Copy

/-! ## Loads and stores -/

section LoadStore
variable (c : Dev nD) (n : ℕ) (hn : 0 < n)

omit hn in
theorem addf_cast (v w : FVec F (Sn n) .f32) (j : (Sn n).Idx) : addf (shapeCast (Sn n) v rfl) w j = FloatOps.addf (v j) (w j) := by
  rw [shapeCast_self]; rfl

/-- The sum of rows of the input and landed rows. -/
theorem wp_sum_x (a b : Off) (ha : Inb a n) (hb : Inb b n) (S T : Reg) (hS : (rect a n ha).set ⊆ S) (hT : (rect b n hb).set ⊆ T)
    (q q' : PosShare TreeShare) (f g : Con F) :
    iprop(xP c S q f ∗ mP c T q' g) ⊢ wpc c (sum xM mM n hn a b ha hb)
      (fun w => iprop(⌜∀ j : (Sn n).Idx, w j = FloatOps.addf (f ((rect a n ha).emb j)) (g ((rect b n hb).emb j))⌝ ∗ xP c S q f ∗ mP c T q' g)) := by
  rw [show sum (F := F) xM mM n hn a b ha hb = .op (.load xM (rect a n ha).toLoadRect (View.loadsAt_vmem (n_pos hn))) fun (v : Vec F (Sn n) .f32) =>
    .op (.load mM (rect b n hb).toLoadRect (View.loadsAt_vmem (n_pos hn))) fun (w : Vec F (Sn n) .f32) => .ret (addf (shapeCast (Sn n) v rfl) w) from rfl]
  unfold xP mP
  iintro ⟨Hx, Hm⟩
  iapply (wp_load_rect 𝒱₀ (c : Thread nD τ) none Set.univ (m := xM) (r := rect a n ha) (by rw [show ((xM).access (rect a n ha)).set = (rect a n ha).set from View.set_slice_whole ..]; exact hS)) $$ Hx; iintro Hx
  iapply (wp_load_rect 𝒱₀ (c : Thread nD τ) none Set.univ (m := mM) (r := rect b n hb) (by rw [show ((mM).access (rect b n hb)).set = (rect b n hb).set from View.set_slice_whole ..]; exact hT)) $$ Hm; iintro Hm
  rw [wp_ret]; imodintro
  isplitr
  · ipureintro; exact fun j => addf_cast n _ _ j
  isplitl [Hx]; · iexact Hx
  iexact Hm

/-- The sum of rows of the result and landed rows. -/
theorem wp_sum_o (a b : Off) (ha : Inb a n) (hb : Inb b n) (S T : Reg) (hS : (rect a n ha).set ⊆ S) (hT : (rect b n hb).set ⊆ T)
    (q q' : PosShare TreeShare) (f g : Con F) :
    iprop(oP c S q f ∗ mP c T q' g) ⊢ wpc c (sum oM mM n hn a b ha hb)
      (fun w => iprop(⌜∀ j : (Sn n).Idx, w j = FloatOps.addf (f ((rect a n ha).emb j)) (g ((rect b n hb).emb j))⌝ ∗ oP c S q f ∗ mP c T q' g)) := by
  rw [show sum (F := F) oM mM n hn a b ha hb = .op (.load oM (rect a n ha).toLoadRect (View.loadsAt_vmem (n_pos hn))) fun (v : Vec F (Sn n) .f32) =>
    .op (.load mM (rect b n hb).toLoadRect (View.loadsAt_vmem (n_pos hn))) fun (w : Vec F (Sn n) .f32) => .ret (addf (shapeCast (Sn n) v rfl) w) from rfl]
  unfold oP mP
  iintro ⟨Hx, Hm⟩
  iapply (wp_load_rect 𝒱₀ (c : Thread nD τ) none Set.univ (m := oM) (r := rect a n ha) (by rw [show ((oM).access (rect a n ha)).set = (rect a n ha).set from View.set_slice_whole ..]; exact hS)) $$ Hx; iintro Hx
  iapply (wp_load_rect 𝒱₀ (c : Thread nD τ) none Set.univ (m := mM) (r := rect b n hb) (by rw [show ((mM).access (rect b n hb)).set = (rect b n hb).set from View.set_slice_whole ..]; exact hT)) $$ Hm; iintro Hm
  rw [wp_ret]; imodintro
  isplitr
  · ipureintro; exact fun j => addf_cast n _ _ j
  isplitl [Hx]; · iexact Hx
  iexact Hm

/-- The store of the rows of `V`. -/
theorem wp_put (a : Off) (ha : Inb a n) (S : Reg) (hS : (rect a n ha).set = S) (w : FVec F (Sn n) .f32) (V : Con F)
    (hw : ∀ j : (Sn n).Idx, w j = V ((rect a n ha).emb j)) :
    oAny c S ⊢ wpc c (put oM n hn a ha w) (fun _ => oP c S fullShare V) := by
  subst hS
  have hs : ((oM).access (rect a n ha)).set = (rect a n ha).set := View.set_slice_whole ..
  unfold oAny oP put
  iintro ⟨%f, Ho⟩
  simp only [Prog.lift, Prog.bind_op, Prog.bind_ret, Prog.pure_eq_ret]
  iapply (wp_load_rect 𝒱₀ (c : Thread nD τ) none Set.univ (m := oM) (r := rect a n ha) (by rw [hs])) $$ Ho; iintro Ho
  iapply (wp_store 𝒱₀ (c : Thread nD τ) none Set.univ (m := oM) (r := rect a n ha) (Mk := Finset.univ) (by rw [View.setOn_univ, hs])) $$ Ho; iintro Ho
  rw [wp_ret]; imodintro
  iapply (Entails.of_eq (pointsTo_congr (fun i hi => by
    rw [← hs] at hi
    obtain ⟨j, -, rfl⟩ := Finset.mem_map.mp hi
    exact (View.write_emb_of_mem (Val := Elt F) (v := (oM).access (rect a n ha)) f w (Finset.mem_univ j)).trans (hw j)))) $$ Ho

end LoadStore

end Cert.CubeProof

end
-- ==== Proof.Chains.lean ====
/-
# One chain

The steps of one chain on one device, phase by phase: what each takes and what it leaves. Everything is generic in the
chain and the device.
-/
module

public import proofs.«01_k».proof.Proof.Ops

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What a copy writes -/

section Written
variable (n : ℕ) (a b : Off) (ha : Inb a n) (hb : Inb b n)

omit [FloatOps F] in
theorem written_xm (fd fs : Con F) (j : (Sn n).Idx) :
    (sl mM b n hb).view.write (Elt F) fd ((sl xM a n ha).view.read (Elt F) fs) Finset.univ ((rect b n hb).emb j) = fs ((rect a n ha).emb j) :=
  View.write_emb_of_mem (Val := Elt F) (v := (sl mM b n hb).view) fd ((sl xM a n ha).view.read (Elt F) fs) (Finset.mem_univ j)
omit [FloatOps F] in
theorem written_om (fd fs : Con F) (j : (Sn n).Idx) :
    (sl mM b n hb).view.write (Elt F) fd ((sl oM a n ha).view.read (Elt F) fs) Finset.univ ((rect b n hb).emb j) = fs ((rect a n ha).emb j) :=
  View.write_emb_of_mem (Val := Elt F) (v := (sl mM b n hb).view) fd ((sl oM a n ha).view.read (Elt F) fs) (Finset.mem_univ j)
omit [FloatOps F] in
theorem written_oo (fd fs : Con F) (j : (Sn n).Idx) :
    (sl oM b n hb).view.write (Elt F) fd ((sl oM a n ha).view.read (Elt F) fs) Finset.univ ((rect b n hb).emb j) = fs ((rect a n ha).emb j) :=
  View.write_emb_of_mem (Val := Elt F) (v := (sl oM b n hb).view) fd ((sl oM a n ha).view.read (Elt F) fs) (Finset.mem_univ j)

omit [FloatOps F] in
/-- The points-to fact a copy takes or leaves, in the terms of the schedule. -/
theorem x_sl (c : Dev nD) (S : Reg) (hS : (rect a n ha).set = S) (q : PosShare TreeShare) (f : Con F) :
    ((sl xM a n ha).view.loc (c : Thread nD τ) ↦[(sl xM a n ha).view.set]{q} f : sProp 𝕄) = xP c S q f := by
  rw [show (sl xM a n ha).view.set = S from (View.set_slice_whole ..).trans hS]; rfl
omit [FloatOps F] in
theorem o_sl (c : Dev nD) (S : Reg) (hS : (rect a n ha).set = S) (q : PosShare TreeShare) (f : Con F) :
    ((sl oM a n ha).view.loc (c : Thread nD τ) ↦[(sl oM a n ha).view.set]{q} f : sProp 𝕄) = oP c S q f := by
  rw [show (sl oM a n ha).view.set = S from (View.set_slice_whole ..).trans hS]; rfl
omit [FloatOps F] in
theorem m_sl (c : Dev nD) (S : Reg) (hS : (rect a n ha).set = S) (q : PosShare TreeShare) (f : Con F) :
    ((sl mM a n ha).view.loc (c : Thread nD τ) ↦[(sl mM a n ha).view.set]{q} f : sProp 𝕄) = mP c S q f := by
  rw [show (sl mM a n ha).view.set = S from (View.set_slice_whole ..).trans hS]; rfl

omit [FloatOps F] in
theorem oP_written (c : Dev nD) (S : Reg) (hS : (rect a n ha).set = S) (fd fs : Con F) :
    oP (F := F) c S fullShare ((sl oM a n ha).view.write (Elt F) fd ((sl oM a n ha).view.read (Elt F) fs) Finset.univ) = oP c S fullShare fs := by
  subst hS
  refine pointsTo_congr fun i hi => ?_
  have hi' : i ∈ (sl oM a n ha).view.set := (View.set_slice_whole cc0_stg1_0 (rect a n ha)).symm ▸ hi
  obtain ⟨j, -, rfl⟩ := Finset.mem_map.mp hi'
  exact written_oo n a a ha ha fd fs j

end Written

omit [FloatOps F] in
theorem mL_off (j : Fin 3) (k : Chain) (c : Dev nD) (off off' : Off) (h : off = off') (ho : Inb off (cn j k)) (ho' : Inb off' (cn j k)) (V : Con F) :
    mL (F := F) j k c off ho V = mL j k c off' ho' V := by subst h; rfl

omit [FloatOps F] in
theorem oP_union (c : Dev nD) {S T : Reg} (h : Disjoint S T) (q : PosShare TreeShare) (f : Con F) :
    oP (F := F) c (S ∪ T) q f ⊣⊢ iprop(oP c S q f ∗ oP c T q f) := pointsTo_union h
omit [FloatOps F] in
theorem oP_halves (c : Dev nD) (S : Reg) (f : Con F) :
    oP (F := F) c S fullShare f ⊣⊢ iprop(oP c S fullShare.left f ∗ oP c S fullShare.right f) := by
  unfold oP
  exact pointsTo_share (PosShare.mem_left_op_right fullShare)
omit [FloatOps F] in
theorem oP_congr (c : Dev nD) (S : Reg) (q : PosShare TreeShare) {f g : Con F} (h : ∀ i ∈ S, f i = g i) : oP (F := F) c S q f = oP c S q g :=
  pointsTo_congr h

/-- The kept half, from the two quarters of it. -/
theorem oP_join (X : Dev nD → Con F) (c : Dev nD) (k : Chain) (q : PosShare TreeShare) :
    iprop(oP c (RK1 k c) q (V3 X k c) ∗ oP c (RS1 k c) q (V3 X k (pt 1 k c))) ⊢ oP c (RK0 k c) q (VG X k c) := by
  rw [← K0_union, oP_congr c (RK1 k c) q (f := V3 X k c) (g := VG X k c) (fun i hi => (if_pos hi).symm),
    oP_congr c (RS1 k c) q (f := V3 X k (pt 1 k c)) (g := VG X k c) (fun i hi => (if_neg (Finset.disjoint_right.mp (K0_disj k c) hi)).symm)]
  exact (oP_union c (K0_disj k c) q _).2

/-! ## The steps -/

section Steps
variable (X : Dev nD → Con F) (K : Dev nD × KC → ℕ) (c : Dev nD) (k : Chain)

theorem wp_snd0 :
    iprop(recs X K ∗ ow c (6 * (0 : Stage).val + k.val) ∗ tokS c 0 k ∗ xP c (RS0 k c) fullShare (X c) ∗ mAny (pt 0 k c) (RC 0 k))
      ⊢ wpc c (snd0 tab xM mM cc0_scratch1 cc0_scratch2 c k) (fun _ => iprop(ow c (6 * (0 : Stage).val + k.val + 1) ∗ credS c 0 k)) := by
  unfold mAny
  iintro ⟨#HR, HO, Ht, Hx, ⟨%fd, Hm⟩⟩
  have e₁ := x_sl (F := F) (hf k) (off0 k (pt 0 k c)) (off0_inb k (pt 0 k c)) c (RS0 k c) (set_off0 _ _ _) fullShare (X c)
  have e₂ (f : Con F) := m_sl (F := F) (hf k) (coff 0 k) (coff_inb 0 k) (pt 0 k c) (RC 0 k) (set_coff _ _ _) fullShare f
  have h := wp_copy X K c 0 k xM mM (hf k) (off0 k (pt 0 k c)) (coff 0 k) (off0_inb k (pt 0 k c)) (coff_inb 0 k) (dst 0 k c) rfl fullShare (X c) fd rfl
    (by exact Entails.of_eq e₁)
    (by
      refine (Entails.of_eq (e₂ _)).trans ?_
      show _ ⊢ mL 0 k (pt 0 k c) (off0 k (pt 0 k c)) (inb0 k (pt 0 k c)) (X (pt 0 k (pt 0 k c)))
      unfold mL
      iintro H
      iexists _
      isplitr
      rotate_left
      · iexact H
      · ipureintro
        intro j
        rw [pt_pt]
        exact written_xm (hf k) (off0 k (pt 0 k c)) (coff 0 k) (off0_inb k (pt 0 k c)) (coff_inb 0 k) fd (X c) j)
  iapply h
  isplitr; · iexact HR
  isplitl [HO]; · iexact HO
  isplitl [Ht]; · iexact Ht
  isplitl [Hx]; · iapply (Entails.of_eq e₁.symm); iexact Hx
  iapply (Entails.of_eq (e₂ fd).symm); iexact Hm

theorem wp_rcv0 (t : ℕ) (ht : 6 ≤ t) :
    iprop(recs X K ∗ ow c t ∗ tokR c 0 k)
      ⊢ wpc c (rcv0 tab xM mM cc0_scratch2 c k) (fun _ => iprop(ow c t ∗ mL 0 k c (off0 k c) (inb0 k c) (X (pt 0 k c)) ∗ zR c 0 k)) :=
  wp_await_recv X K c 0 k xM mM (hf k) _ _ _ _ t rfl (by show 6 * 2 ≤ t + 6; omega)

theorem wp_phase1 :
    iprop(recs X K ∗ ow c (6 * (1 : Stage).val + k.val) ∗ tokR c 0 k ∗ tokS c 1 k ∗ xP c (RK0 k c) fullShare (X c) ∗ oAny c (RK0 k c) ∗ mAny (pt 1 k c) (RC 1 k))
      ⊢ wpc c (phase1 tab xM oM mM cc0_scratch1 cc0_scratch2 c k)
          (fun _ => iprop(ow c (6 * (1 : Stage).val + k.val + 1) ∗ xP c (RK0 k c) fullShare (X c) ∗ oP c (RK1 k c) fullShare (V1 X k c)
            ∗ mAny c (RC 0 k) ∗ zR c 0 k ∗ credS c 1 k)) := by
  unfold phase1
  iintro ⟨#HR, HO, HtR, HtS, Hx, Ho, Hmd⟩
  iapply (wpc_seq (wp_rcv0 X K c k (6 * (1 : Stage).val + k.val) (by show 6 ≤ 6 * 1 + k.val; omega))) $$ [HO HtR]
  · isplitr; · iexact HR
    isplitl [HO]; · iexact HO
    iexact HtR
  unfold mL
  iintro %_ ⟨HO, ⟨%f, %hf', Hm⟩, Hz⟩
  iapply (wpc_seq (wp_sum_x c (hf k) (hf_pos k) (off0 k c) (coff 0 k) (off0_inb k c) (coff_inb 0 k) (RK0 k c) (RC 0 k)
    (set_off0 _ _ _).subset (set_coff _ _ _).subset fullShare fullShare (X c) f)) $$ [Hx Hm]
  · isplitl [Hx]; · iexact Hx
    iexact Hm
  iintro %w ⟨%hw, Hx, Hm⟩
  iapply (wpc_seq (wp_put c (hf k) (hf_pos k) (off0 k c) (off0_inb k c) (RK0 k c) (set_off0 _ _ _) w (V1 X k c)
    (fun j => (hw j).trans (congrArg _ (hf' j))))) $$ Ho
  iintro %_ Ho
  ihave Ho := (show oP c (RK0 k c) fullShare (V1 X k c) ⊢ iprop(oP c (RK1 k c) fullShare (V1 X k c) ∗ oP c (RS1 k c) fullShare (V1 X k c)) by
    rw [← K0_union]; exact (oP_union c (K0_disj k c) fullShare _).1) $$ Ho
  icases Ho with ⟨Ho, Hs⟩
  unfold mAny
  icases Hmd with ⟨%fd, Hmd⟩
  have e₁ := o_sl (F := F) (qt k) (off1 k (pt 1 k c)) (off1_inb k (pt 1 k c)) c (RS1 k c) (set_off1 _ _ _) fullShare (V1 X k c)
  have e₂ (f : Con F) := m_sl (F := F) (qt k) (coff 1 k) (coff_inb 1 k) (pt 1 k c) (RC 1 k) (set_coff _ _ _) fullShare f
  have h := wp_copy_landing X K c 1 k oM mM (qt k) (off1 k (pt 1 k c)) (coff 1 k) (off1_inb k (pt 1 k c)) (coff_inb 1 k) (dst 1 k c) rfl fullShare (V1 X k c) fd rfl
    (by exact Entails.refl _)
    (by
      show _ ⊢ iprop(mL 1 k (pt 1 k c) (off1 k (pt 1 k c)) (inb1 k (pt 1 k c)) (V1 X k (pt 1 k (pt 1 k c))) ∗ oAny (pt 1 k (pt 1 k c)) (RK1 k (pt 1 k c)))
      refine (Entails.of_eq (congrArg₂ (fun a b : sProp 𝕄 => iprop(a ∗ b)) (e₂ _) e₁)).trans ?_
      rw [pt_pt]
      unfold mL oAny
      iintro ⟨H, H'⟩
      isplitl [H]
      · iexists _
        isplitr
        rotate_left
        · iexact H
        · ipureintro
          intro j
          exact written_om (qt k) (off1 k (pt 1 k c)) (coff 1 k) (off1_inb k (pt 1 k c)) (coff_inb 1 k) fd (V1 X k c) j
      · iexists _; iexact H')
  iapply (wpc_last h) $$ [HO HtS Hs Hmd]
  · isplitr; · iexact HR
    isplitl [HO]; · iexact HO
    isplitl [HtS]; · iexact HtS
    isplitl [Hs]; · iapply (Entails.of_eq e₁.symm); iexact Hs
    iapply (Entails.of_eq (e₂ fd).symm); iexact Hmd
  iintro %_ ⟨HO, Hc⟩
  isplitl [HO]; · iexact HO
  isplitl [Hx]; · iexact Hx
  isplitl [Ho]; · iexact Ho
  isplitl [Hm]; · iexists f; iexact Hm
  isplitl [Hz]; · iexact Hz
  iexact Hc

theorem wp_rcv1 (t : ℕ) (ht : 12 ≤ t) :
    iprop(recs X K ∗ ow c t ∗ tokR c 1 k)
      ⊢ wpc c (rcv1 tab oM mM cc0_scratch2 c k)
          (fun _ => iprop(ow c t ∗ (mL 1 k c (off1 k c) (inb1 k c) (V1 X k (pt 1 k c)) ∗ oAny (pt 1 k c) (RK1 k c)) ∗ zR c 1 k)) :=
  wp_await_recv X K c 1 k oM mM (qt k) _ _ _ _ t rfl (by show 6 * 3 ≤ t + 6; omega)

theorem wp_phase2 :
    iprop(recs X K ∗ ow c (6 * (2 : Stage).val + k.val) ∗ tokR c 1 k ∗ tokS c 2 k ∗ oP c (RK1 k c) fullShare (V1 X k c) ∗ mAny (pt 2 k c) (RC 2 k))
      ⊢ wpc c (phase2 tab oM mM cc0_scratch1 cc0_scratch2 c k)
          (fun _ => iprop(ow c (6 * (2 : Stage).val + k.val + 1) ∗ mAny c (RC 1 k) ∗ oAny (pt 1 k c) (RK1 k c) ∗ zR c 1 k ∗ credS c 2 k)) := by
  unfold phase2
  iintro ⟨#HR, HO, HtR, HtS, Ho, Hmd⟩
  iapply (wpc_seq (wp_rcv1 X K c k (6 * (2 : Stage).val + k.val) (by show 12 ≤ 6 * 2 + k.val; omega))) $$ [HO HtR]
  · isplitr; · iexact HR
    isplitl [HO]; · iexact HO
    iexact HtR
  unfold mL
  iintro %_ ⟨HO, ⟨⟨%f, %hf', Hm⟩, Hp⟩, Hz⟩
  iapply (wpc_seq (wp_sum_o c (qt k) (qt_pos k) (off1 k c) (coff 1 k) (off1_inb k c) (coff_inb 1 k) (RK1 k c) (RC 1 k)
    (set_off1 _ _ _).subset (set_coff _ _ _).subset fullShare fullShare (V1 X k c) f)) $$ [Ho Hm]
  · isplitl [Ho]; · iexact Ho
    iexact Hm
  iintro %w ⟨%hw, Ho, Hm⟩
  iapply (wpc_seq (wp_put c (qt k) (qt_pos k) (off1 k c) (off1_inb k c) (RK1 k c) (set_off1 _ _ _) w (V2 X k c)
    (fun j => (hw j).trans (congrArg _ (hf' j))))) $$ [Ho]
  · unfold oAny; iexists _; iexact Ho
  iintro %_ Ho
  unfold mAny
  icases Hmd with ⟨%fd, Hmd⟩
  have e₁ := o_sl (F := F) (qt k) (off1 k c) (off1_inb k c) c (RK1 k c) (set_off1 _ _ _) fullShare (V2 X k c)
  have e₂ (f : Con F) := m_sl (F := F) (qt k) (coff 2 k) (coff_inb 2 k) (pt 2 k c) (RC 2 k) (set_coff _ _ _) fullShare f
  have h := wp_copy X K c 2 k oM mM (qt k) (off1 k c) (coff 2 k) (off1_inb k c) (coff_inb 2 k) (dst 2 k c) rfl fullShare (V2 X k c) fd rfl
    (by exact Entails.of_eq e₁)
    (by
      refine (Entails.of_eq (e₂ _)).trans ?_
      show _ ⊢ mL 2 k (pt 2 k c) (off1 k (pt 2 k c)) (inb2 k (pt 2 k c)) (V2 X k (pt 2 k (pt 2 k c)))
      rw [mL_off 2 k (pt 2 k c) _ _ (off1_pt2 k c) _ (inb2 k c), pt_pt]
      unfold mL
      iintro H
      iexists _
      isplitr
      rotate_left
      · iexact H
      · ipureintro
        intro j
        exact written_om (qt k) (off1 k c) (coff 2 k) (off1_inb k c) (coff_inb 2 k) fd (V2 X k c) j)
  iapply (wpc_last h) $$ [HO HtS Ho Hmd]
  · isplitr; · iexact HR
    isplitl [HO]; · iexact HO
    isplitl [HtS]; · iexact HtS
    isplitl [Ho]; · iapply (Entails.of_eq e₁.symm); iexact Ho
    iapply (Entails.of_eq (e₂ fd).symm); iexact Hmd
  iintro %_ ⟨HO, Hc⟩
  isplitl [HO]; · iexact HO
  isplitl [Hm]; · iexists f; iexact Hm
  isplitl [Hp]; · iexact Hp
  isplitl [Hz]; · iexact Hz
  iexact Hc

theorem wp_sent2 (t : ℕ) :
    iprop(recs X K ∗ ow c t ∗ tokW c 2 k ∗ credS c 2 k)
      ⊢ wpc c (sent2 tab oM mM cc0_scratch1 c k) (fun _ => iprop(ow c t ∗ oP c (RK1 k c) fullShare (V2 X k c) ∗ zS c 2 k)) :=
  wp_await_send X K c 2 k mM oM (qt k) _ _ _ _ t rfl
theorem wp_rcv2 (t : ℕ) (ht : 18 ≤ t) :
    iprop(recs X K ∗ ow c t ∗ tokR c 2 k)
      ⊢ wpc c (rcv2 tab oM mM cc0_scratch2 c k)
          (fun _ => iprop(ow c t ∗ mL 2 k c (off1 k c) (inb2 k c) (V2 X k (pt 2 k c)) ∗ zR c 2 k)) :=
  wp_await_recv X K c 2 k oM mM (qt k) _ _ _ _ t rfl (by show 6 * 4 ≤ t + 6; omega)

theorem wp_phase3 :
    iprop(recs X K ∗ ow c (6 * (3 : Stage).val + k.val) ∗ tokW c 2 k ∗ credS c 2 k ∗ tokR c 2 k ∗ tokS c 3 k ∗ oAny (pt 1 k c) (RK1 k c))
      ⊢ wpc c (phase3 tab oM mM cc0_scratch1 cc0_scratch2 c k)
          (fun _ => iprop(ow c (6 * (3 : Stage).val + k.val + 1) ∗ mAny c (RC 2 k) ∗ zR c 2 k ∗ zS c 2 k
            ∗ oP c (RK1 k c) fullShare.right (V3 X k c) ∗ credS c 3 k)) := by
  unfold phase3
  iintro ⟨#HR, HO, HtW, HcW, HtR, HtS, Hod⟩
  iapply (wpc_seq (wp_sent2 X K c k (6 * (3 : Stage).val + k.val))) $$ [HO HtW HcW]
  · isplitr; · iexact HR
    isplitl [HO]; · iexact HO
    isplitl [HtW]; · iexact HtW
    iexact HcW
  iintro %_ ⟨HO, Ho, HzS⟩
  iapply (wpc_seq (wp_rcv2 X K c k (6 * (3 : Stage).val + k.val) (by show 18 ≤ 6 * 3 + k.val; omega))) $$ [HO HtR]
  · isplitr; · iexact HR
    isplitl [HO]; · iexact HO
    iexact HtR
  unfold mL
  iintro %_ ⟨HO, ⟨%f, %hf', Hm⟩, Hz⟩
  iapply (wpc_seq (wp_sum_o c (qt k) (qt_pos k) (off1 k c) (coff 2 k) (off1_inb k c) (coff_inb 2 k) (RK1 k c) (RC 2 k)
    (set_off1 _ _ _).subset (set_coff _ _ _).subset fullShare fullShare (V2 X k c) f)) $$ [Ho Hm]
  · isplitl [Ho]; · iexact Ho
    iexact Hm
  iintro %w ⟨%hw, Ho, Hm⟩
  iapply (wpc_seq (wp_put c (qt k) (qt_pos k) (off1 k c) (off1_inb k c) (RK1 k c) (set_off1 _ _ _) w (V3 X k c)
    (fun j => (hw j).trans (congrArg _ (hf' j))))) $$ [Ho]
  · unfold oAny; iexists _; iexact Ho
  iintro %_ Ho
  ihave Ho := (oP_halves c (RK1 k c) (V3 X k c)).1 $$ Ho
  icases Ho with ⟨Hl, Hr⟩
  unfold oAny
  icases Hod with ⟨%fd, Hod⟩
  have e₁ := o_sl (F := F) (qt k) (off1 k c) (off1_inb k c) c (RK1 k c) (set_off1 _ _ _) fullShare.left (V3 X k c)
  have e₂ (f : Con F) := o_sl (F := F) (qt k) (off1 k c) (off1_inb k c) (pt 1 k c) (RK1 k c) (set_off1 _ _ _) fullShare f
  have h := wp_copy X K c 3 k oM oM (qt k) (off1 k c) (off1 k c) (off1_inb k c) (off1_inb k c) (dst 3 k c) rfl fullShare.left (V3 X k c) fd rfl
    (by exact Entails.of_eq e₁)
    (by
      refine (Entails.of_eq ((e₂ _).trans (oP_written (qt k) (off1 k c) (off1_inb k c) (pt 1 k c) (RK1 k c) (set_off1 _ _ _) fd (V3 X k c)))).trans ?_
      show _ ⊢ oP (pt 1 k c) (RS1 k (pt 1 k c)) fullShare (V3 X k (pt 1 k (pt 1 k c)))
      rw [RS1_pt1, pt_pt])
  iapply (wpc_last h) $$ [HO HtS Hl Hod]
  · isplitr; · iexact HR
    isplitl [HO]; · iexact HO
    isplitl [HtS]; · iexact HtS
    isplitl [Hl]; · iapply (Entails.of_eq e₁.symm); iexact Hl
    iapply (Entails.of_eq (e₂ fd).symm); iexact Hod
  iintro %_ ⟨HO, Hc⟩
  isplitl [HO]; · iexact HO
  isplitl [Hm]; · unfold mAny; iexists f; iexact Hm
  isplitl [Hz]; · iexact Hz
  isplitl [HzS]; · iexact HzS
  isplitl [Hr]; · iexact Hr
  iexact Hc

theorem wp_rcv3 (t : ℕ) (ht : 24 ≤ t) :
    iprop(recs X K ∗ ow c t ∗ tokR c 3 k)
      ⊢ wpc c (rcv3 tab oM cc0_scratch2 c k)
          (fun _ => iprop(ow c t ∗ oP c (RS1 k c) fullShare (V3 X k (pt 1 k c)) ∗ zR c 3 k)) :=
  wp_await_recv X K c 3 k oM oM (qt k) _ _ _ _ t rfl (by show 6 * 5 ≤ t + 6; omega)

theorem wp_phase4 :
    iprop(recs X K ∗ ow c (6 * (4 : Stage).val + k.val) ∗ tokR c 3 k ∗ tokS c 4 k ∗ oP c (RK1 k c) fullShare.right (V3 X k c)
        ∗ oAny (pt 0 k c) (RK0 k c))
      ⊢ wpc c (phase4 tab oM cc0_scratch1 cc0_scratch2 c k)
          (fun _ => iprop(ow c (6 * (4 : Stage).val + k.val + 1) ∗ oP c (RS1 k c) fullShare.left (V3 X k (pt 1 k c)) ∗ zR c 3 k ∗ credS c 4 k)) := by
  unfold phase4
  iintro ⟨#HR, HO, HtR, HtS, Hr, Hod⟩
  iapply (wpc_seq (wp_rcv3 X K c k (6 * (4 : Stage).val + k.val) (by show 24 ≤ 6 * 4 + k.val; omega))) $$ [HO HtR]
  · isplitr; · iexact HR
    isplitl [HO]; · iexact HO
    iexact HtR
  iintro %_ ⟨HO, Hs, Hz⟩
  ihave Hs := (oP_halves c (RS1 k c) (V3 X k (pt 1 k c))).1 $$ Hs
  icases Hs with ⟨Hsl, Hsr⟩
  ihave Hr := (oP_join X c k fullShare.right) $$ [Hr Hsr]
  · isplitl [Hr]; · iexact Hr
    iexact Hsr
  unfold oAny
  icases Hod with ⟨%fd, Hod⟩
  have e₁ := o_sl (F := F) (hf k) (off0 k c) (off0_inb k c) c (RK0 k c) (set_off0 _ _ _) fullShare.right (VG X k c)
  have e₂ (f : Con F) := o_sl (F := F) (hf k) (off0 k c) (off0_inb k c) (pt 0 k c) (RK0 k c) (set_off0 _ _ _) fullShare f
  have h := wp_copy X K c 4 k oM oM (hf k) (off0 k c) (off0 k c) (off0_inb k c) (off0_inb k c) (dst 4 k c) rfl fullShare.right (VG X k c) fd rfl
    (by exact Entails.of_eq e₁)
    (by
      refine (Entails.of_eq ((e₂ _).trans (oP_written (hf k) (off0 k c) (off0_inb k c) (pt 0 k c) (RK0 k c) (set_off0 _ _ _) fd (VG X k c)))).trans ?_
      show _ ⊢ oP (pt 0 k c) (RS0 k (pt 0 k c)) fullShare (VG X k (pt 0 k (pt 0 k c)))
      rw [RS0_pt0, pt_pt])
  iapply (wpc_last h) $$ [HO HtS Hr Hod]
  · isplitr; · iexact HR
    isplitl [HO]; · iexact HO
    isplitl [HtS]; · iexact HtS
    isplitl [Hr]; · iapply (Entails.of_eq e₁.symm); iexact Hr
    iapply (Entails.of_eq (e₂ fd).symm); iexact Hod
  iintro %_ ⟨HO, Hc⟩
  isplitl [HO]; · iexact HO
  isplitl [Hsl]; · iexact Hsl
  isplitl [Hz]; · iexact Hz
  iexact Hc

theorem wp_rcv4 :
    iprop(recs X K ∗ ow c 30 ∗ tokR c 4 k)
      ⊢ wpc c (rcv4 tab oM cc0_scratch2 c k)
          (fun _ => iprop(ow c 30 ∗ oP c (RS0 k c) fullShare (VG X k (pt 0 k c)) ∗ zR c 4 k)) :=
  wp_await_recv X K c 4 k oM oM (hf k) _ _ _ _ 30 rfl (by decide)

theorem wp_sent0 :
    iprop(recs X K ∗ ow c 30 ∗ tokW c 0 k ∗ credS c 0 k)
      ⊢ wpc c (sent0 tab xM mM cc0_scratch1 c k) (fun _ => iprop(ow c 30 ∗ xP c (RS0 k c) fullShare (X c) ∗ zS c 0 k)) :=
  wp_await_send X K c 0 k mM xM (hf k) _ _ _ _ 30 rfl
theorem wp_sent1 :
    iprop(recs X K ∗ ow c 30 ∗ tokW c 1 k ∗ credS c 1 k)
      ⊢ wpc c (sent1 tab oM mM cc0_scratch1 c k) (fun _ => iprop(ow c 30 ∗ emp ∗ zS c 1 k)) :=
  wp_await_send X K c 1 k mM oM (qt k) _ _ _ _ 30 rfl
theorem wp_sent3 :
    iprop(recs X K ∗ ow c 30 ∗ tokW c 3 k ∗ credS c 3 k)
      ⊢ wpc c (sent3 tab oM cc0_scratch1 c k) (fun _ => iprop(ow c 30 ∗ oP c (RK1 k c) fullShare.left (V3 X k c) ∗ zS c 3 k)) :=
  wp_await_send X K c 3 k oM oM (qt k) _ _ _ _ 30 rfl
theorem wp_sent4 :
    iprop(recs X K ∗ ow c 30 ∗ tokW c 4 k ∗ credS c 4 k)
      ⊢ wpc c (sent4 tab oM cc0_scratch1 c k) (fun _ => iprop(ow c 30 ∗ oP c (RK0 k c) fullShare.right (VG X k c) ∗ zS c 4 k)) :=
  wp_await_send X K c 4 k oM oM (hf k) _ _ _ _ 30 rfl

end Steps

end Cert.CubeProof

end
-- ==== Proof.Phases.lean ====
/-
# All chains of a device, and the handshake

Six chains one after the other (`wp_seq6`), the handshake, and the whole buffers as the chains' regions.
-/
module

public import proofs.«01_k».proof.Proof.Chains

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Families -/

omit [FloatOps F] in
theorem bigSep_chain (Φ : Chain → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
theorem bigSep_stage (Φ : Stage → sProp 𝕄) : bigSep Finset.univ Φ = iprop(Φ 0 ∗ Φ 1 ∗ Φ 2 ∗ Φ 3 ∗ Φ 4) :=
  bigSep_univ_eq_bigSepL [0, 1, 2, 3, 4] (by decide) (by decide) Φ
omit [FloatOps F] in
theorem bigSep_axis (Φ : Fin 3 → sProp 𝕄) : bigSep Finset.univ Φ = iprop(Φ 0 ∗ Φ 1 ∗ Φ 2) :=
  bigSep_univ_eq_bigSepL [0, 1, 2] (by decide) (by decide) Φ
omit [FloatOps F] in
theorem bigSep_sk (Φ : SK → sProp 𝕄) : bigSep Finset.univ Φ = bigSep Finset.univ fun s : Stage => bigSep Finset.univ fun k : Chain => Φ (s, k) :=
  bigSep_univ_prod Φ
omit [FloatOps F] in
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun p : A × B => Φ p.1 p.2), ← bigSep_univ_prod (fun p : B × A => Φ p.2 p.1),
    bigSep_univ_equiv (Equiv.prodComm B A) (fun p : A × B => Φ p.1 p.2)]
  rfl
omit [FloatOps F] in
/-- Over the axes, then the chains at the slot of that axis — over the chains, then the slots. -/
theorem bigSep_slots (Φ : Chain → Fin 3 → Fin 3 → sProp 𝕄) :
    (bigSep Finset.univ fun a : Fin 3 => bigSep Finset.univ fun k : Chain => Φ k (a - part k) a)
      = bigSep Finset.univ fun k : Chain => bigSep Finset.univ fun j : Fin 3 => Φ k j (ax j k) := by
  rw [bigSep_swap]
  refine bigSep_congr fun k _ => ?_
  have h₁ : ∀ p j : Fin 3, p + j - p = j := by decide
  have h₂ : ∀ p a : Fin 3, p + (a - p) = a := by decide
  rw [bigSep_univ_equiv (⟨fun j => part k + j, fun a => a - part k, h₁ (part k), h₂ (part k)⟩ : Fin 3 ≃ Fin 3) (fun a => Φ k (a - part k) a)]
  refine bigSep_congr fun j _ => ?_
  show Φ k (part k + j - part k) (part k + j) = _
  rw [h₁]; rfl

/-! ## Six chains in turn -/

theorem wp_seq6 {c : Dev nD} {f : Chain → P F PUnit} (R : sProp 𝕄) [BI.Persistent R] (O : ℕ → sProp 𝕄) (n : ℕ) (A B : Chain → sProp 𝕄)
    (h : ∀ k : Chain, iprop(R ∗ O (n + k.val) ∗ A k) ⊢ wpc c (f k) (fun _ => iprop(O (n + k.val + 1) ∗ B k))) :
    iprop(R ∗ O n ∗ bigSep Finset.univ A) ⊢ wpc c (seq6 f) (fun _ => iprop(O (n + 6) ∗ bigSep Finset.univ B)) := by
  have h0 : iprop(R ∗ O n ∗ A 0) ⊢ wpc c (f 0) (fun _ => iprop(O (n + 1) ∗ B 0)) := h 0
  have h1 : iprop(R ∗ O (n + 1) ∗ A 1) ⊢ wpc c (f 1) (fun _ => iprop(O (n + 2) ∗ B 1)) := h 1
  have h2 : iprop(R ∗ O (n + 2) ∗ A 2) ⊢ wpc c (f 2) (fun _ => iprop(O (n + 3) ∗ B 2)) := h 2
  have h3 : iprop(R ∗ O (n + 3) ∗ A 3) ⊢ wpc c (f 3) (fun _ => iprop(O (n + 4) ∗ B 3)) := h 3
  have h4 : iprop(R ∗ O (n + 4) ∗ A 4) ⊢ wpc c (f 4) (fun _ => iprop(O (n + 5) ∗ B 4)) := h 4
  have h5 : iprop(R ∗ O (n + 5) ∗ A 5) ⊢ wpc c (f 5) (fun _ => iprop(O (n + 6) ∗ B 5)) := h 5
  rw [bigSep_chain, bigSep_chain]
  unfold seq6
  iintro ⟨#HR, HO, H0, H1, H2, H3, H4, H5⟩
  iapply (wpc_seq h0) $$ [HO H0]
  · isplitr; · iexact HR
    isplitl [HO]; · iexact HO
    iexact H0
  iintro %_ ⟨HO, H0⟩
  iapply (wpc_seq h1) $$ [HO H1]
  · isplitr; · iexact HR
    isplitl [HO]; · iexact HO
    iexact H1
  iintro %_ ⟨HO, H1⟩
  iapply (wpc_seq h2) $$ [HO H2]
  · isplitr; · iexact HR
    isplitl [HO]; · iexact HO
    iexact H2
  iintro %_ ⟨HO, H2⟩
  iapply (wpc_seq h3) $$ [HO H3]
  · isplitr; · iexact HR
    isplitl [HO]; · iexact HO
    iexact H3
  iintro %_ ⟨HO, H3⟩
  iapply (wpc_seq h4) $$ [HO H4]
  · isplitr; · iexact HR
    isplitl [HO]; · iexact HO
    iexact H4
  iintro %_ ⟨HO, H4⟩
  iapply (wpc_last h5) $$ [HO H5]
  · isplitr; · iexact HR
    isplitl [HO]; · iexact HO
    iexact H5
  iintro %_ ⟨HO, H5⟩
  isplitl [HO]; · iexact HO
  isplitl [H0]; · iexact H0
  isplitl [H1]; · iexact H1
  isplitl [H2]; · iexact H2
  isplitl [H3]; · iexact H3
  isplitl [H4]; · iexact H4
  iexact H5

/-! ## The whole buffers -/

omit [FloatOps F] in
theorem RA_disj' : ∀ k ∈ (Finset.univ : Finset Chain), ∀ k' ∈ (Finset.univ : Finset Chain), k ≠ k' → Disjoint (RA k) (RA k') :=
  fun k _ k' _ h => RA_disj (Finset.mem_coe.mpr (Finset.mem_univ k)) (Finset.mem_coe.mpr (Finset.mem_univ k')) h

omit [FloatOps F] in
theorem xP_all (c : Dev nD) (f : Con F) :
    xP (F := F) c Finset.univ fullShare f ⊣⊢ bigSep Finset.univ fun k : Chain => iprop(xP c (RK0 k c) fullShare f ∗ xP c (RS0 k c) fullShare f) := by
  have e : xP (F := F) c Finset.univ fullShare f = bigSep Finset.univ fun k : Chain => xP c (RA k) fullShare f := by
    unfold xP; rw [← RA_union]; exact pointsTo_biUnion _ _ RA_disj'
  have e' (k : Chain) : xP (F := F) c (RA k) fullShare f ⊣⊢ iprop(xP c (RK0 k c) fullShare f ∗ xP c (RS0 k c) fullShare f) := by
    rw [← A_union k c]; exact pointsTo_union (A_disj k c)
  rw [e]
  exact ⟨bigSep_mono fun k _ => (e' k).1, bigSep_mono fun k _ => (e' k).2⟩

omit [FloatOps F] in
theorem oAny_all (c : Dev nD) :
    oAny (F := F) c Finset.univ ⊢ bigSep Finset.univ fun k : Chain => iprop(oAny c (RK0 k c) ∗ oAny c (RS0 k c)) := by
  unfold oAny
  iintro ⟨%f, H⟩
  have e : oP (F := F) c Finset.univ fullShare f = bigSep Finset.univ fun k : Chain => oP c (RA k) fullShare f := by
    unfold oP; rw [← RA_union]; exact pointsTo_biUnion _ _ RA_disj'
  have e' (k : Chain) : oP (F := F) c (RA k) fullShare f ⊢ iprop((∃ f : Con F, oP c (RK0 k c) fullShare f) ∗ ∃ f : Con F, oP c (RS0 k c) fullShare f) := by
    rw [← A_union k c]
    refine (oP_union c (A_disj k c) fullShare f).1.trans ?_
    iintro ⟨H1, H2⟩
    isplitl [H1]
    · iexists f; iexact H1
    · iexists f; iexact H2
  have h := (Entails.of_eq e).trans (bigSep_mono fun k _ => e' k)
  iapply h; iexact H

omit [FloatOps F] in
theorem mAny_split (c : Dev nD) {S T : Reg} (h : Disjoint S T) : mAny (F := F) c (S ∪ T) ⊢ iprop(mAny c S ∗ mAny c T) := by
  unfold mAny mP
  iintro ⟨%f, H⟩
  ihave H := (pointsTo_union h).1 $$ H
  icases H with ⟨H1, H2⟩
  isplitl [H1]
  · iexists f; iexact H1
  · iexists f; iexact H2
omit [FloatOps F] in
theorem mAny_join (c : Dev nD) {S T : Reg} (h : Disjoint S T) : iprop(mAny c S ∗ mAny c T) ⊢ mAny (F := F) c (S ∪ T) := by
  unfold mAny mP
  iintro ⟨⟨%f, H⟩, ⟨%g, H'⟩⟩
  iexists _
  iapply (pointsTo_join h) $$ [H H']
  isplitl [H]; · iexact H
  iexact H'

omit [FloatOps F] in
theorem mAny_all (c : Dev nD) :
    mAny (F := F) c Finset.univ ⊢ bigSep Finset.univ fun k : Chain => iprop(mAny c (RC 0 k) ∗ mAny c (RC 1 k) ∗ mAny c (RC 2 k)) := by
  have e' (k : Chain) : mAny (F := F) c (RA k) ⊢ iprop(mAny c (RC 0 k) ∗ mAny c (RC 1 k) ∗ mAny c (RC 2 k)) := by
    rw [← C_union k]
    exact (mAny_split c (C_disj k)).trans (sep_mono_right (mAny_split c (C_disj' k)))
  have e (f : Con F) : mP (F := F) c Finset.univ fullShare f = bigSep Finset.univ fun k : Chain => mP c (RA k) fullShare f := by
    unfold mP; rw [← RA_union]; exact pointsTo_biUnion _ _ RA_disj'
  have hm (f : Con F) (k : Chain) : mP (F := F) c (RA k) fullShare f ⊢ mAny c (RA k) := by unfold mAny; iintro H; iexists f; iexact H
  have h (f : Con F) : mP (F := F) c Finset.univ fullShare f ⊢ bigSep Finset.univ fun k : Chain => iprop(mAny c (RC 0 k) ∗ mAny c (RC 1 k) ∗ mAny c (RC 2 k)) :=
    ((Entails.of_eq (e f)).trans (bigSep_mono fun k _ => hm f k)).trans (bigSep_mono fun k _ => e' k)
  rw [mAny]
  iintro ⟨%f, H⟩
  iapply (h f); iexact H
omit [FloatOps F] in
/-- A family of disjoint element sets of one buffer, each at some contents, is their union at some contents. -/
theorem any_biUnion {ℓ : Loc nD τ sig} {T : Type} (S : Finset T) (R : T → Finset (Idx ℓ)) (fs : T → Buf (Elt F) ℓ) (f₀ : Buf (Elt F) ℓ)
    (h : ∀ t ∈ S, ∀ t' ∈ S, t ≠ t' → Disjoint (R t) (R t')) (U : Finset (Idx ℓ)) (hU : ∀ i, i ∈ U ↔ ∃ t ∈ S, i ∈ R t) :
    (bigSep S fun t => (ℓ ↦[R t]{fullShare} fs t : sProp 𝕄)) ⊢ iprop(∃ g : Buf (Elt F) ℓ, ℓ ↦[U]{fullShare} g) := by
  have e : U = S.biUnion R := by ext i; rw [hU, Finset.mem_biUnion]
  rw [e]
  refine (pointsTo_biUnion_join S R fs f₀ h).trans ?_
  iintro ⟨%g, -, H⟩
  iexists g
  iexact H

omit [FloatOps F] in
theorem mP_all (c : Dev nD) (fs : Chain → Con F) :
    (bigSep Finset.univ fun k : Chain => mP (F := F) c (RA k) fullShare (fs k)) ⊢ mAny c Finset.univ := by
  unfold mP mAny mP
  exact any_biUnion (ℓ := (c : Thread nD τ).loc cc0_scratch0) Finset.univ RA fs (fs 0) RA_disj' Finset.univ
    (fun i => ⟨fun _ => ⟨chainOf i, Finset.mem_univ _, (mem_RA _ i).mpr rfl⟩, fun _ => Finset.mem_univ i⟩)
theorem mAny_all' (c : Dev nD) :
    (bigSep Finset.univ fun k : Chain => iprop(mAny c (RC 0 k) ∗ mAny c (RC 1 k) ∗ mAny c (RC 2 k))) ⊢ mAny (F := F) c Finset.univ := by
  have e' (k : Chain) : iprop(mAny c (RC 0 k) ∗ mAny c (RC 1 k) ∗ mAny c (RC 2 k)) ⊢ mAny (F := F) c (RA k) := by
    rw [← C_union k]
    exact (sep_mono_right (mAny_join c (C_disj' k))).trans (mAny_join c (C_disj k))
  refine (bigSep_mono fun k _ => e' k).trans ?_
  rw [show (fun k : Chain => mAny (F := F) c (RA k)) = fun k => iprop(∃ f : Con F, mP c (RA k) fullShare f) from rfl]
  haveI : Nonempty (Con F) := ⟨fun _ => (Elt.inhabited F .f32).default⟩
  refine (BI.bigSep_exists_pi Finset.univ (fun (k : Chain) (f : Con F) => mP c (RA k) fullShare f)).trans ?_
  iintro ⟨%fs, H⟩
  iapply (mP_all c fs); iexact H

/-- The finished result, from what the chains leave. -/
theorem oP_all (X : Dev nD → Con F) (c : Dev nD) :
    (bigSep Finset.univ fun k : Chain => iprop(oP c (RK0 k c) fullShare (VG X k c) ∗ oP c (RS0 k c) fullShare (VG X k (pt 0 k c))))
      ⊢ oP (F := F) c Finset.univ fullShare (VOut X c) := by
  have e : oP (F := F) c Finset.univ fullShare (VOut X c) = bigSep Finset.univ fun k : Chain => oP c (RA k) fullShare (VOut X c) := by
    unfold oP; rw [← RA_union]; exact pointsTo_biUnion _ _ RA_disj'
  rw [e]
  refine bigSep_mono fun k _ => ?_
  have hA (i : S1024x512.Idx) (hi : i ∈ RK0 k c ∪ RS0 k c) : chainOf i = k := (mem_RA k i).mp (A_union k c ▸ hi)
  rw [← A_union k c,
    oP_congr c (RK0 k c) fullShare (f := VG X k c) (g := VOut X c) (fun i hi => by
      have := hA i (Finset.mem_union_left _ hi); subst this; exact (if_pos hi).symm),
    oP_congr c (RS0 k c) fullShare (f := VG X k (pt 0 k c)) (g := VOut X c) (fun i hi => by
      have := hA i (Finset.mem_union_right _ hi); subst this
      exact (if_neg (Finset.disjoint_right.mp (A_disj _ c) hi)).symm)]
  exact (oP_union c (A_disj k c) fullShare _).2

/-! ## The handshake -/

section Shake
variable (X : Dev nD → Con F) (K : Dev nD × KC → ℕ) (c : Dev nD)

omit [FloatOps F] in
theorem hands_out : iprop((bigSep Finset.univ fun k : Chain => oAny c (RS0 k c))
      ∗ bigSep Finset.univ fun k : Chain => iprop(mAny c (RC 0 k) ∗ mAny c (RC 1 k) ∗ mAny c (RC 2 k)))
    ⊢ (bigSep Finset.univ fun a : Fin 3 => barPay (F := F) (par a c) a) := by
  have e : (bigSep Finset.univ fun a : Fin 3 => barPay (F := F) (par a c) a)
      = bigSep Finset.univ fun k : Chain => bigSep Finset.univ fun j : Fin 3 => hand k j c := by
    rw [← bigSep_slots (fun k j _ => hand k j c)]
    refine bigSep_congr fun a _ => ?_
    unfold barPay
    rw [par_par]
  rw [e, ← bigSep_sep']
  refine bigSep_mono fun k _ => ?_
  rw [bigSep_axis]
  show _ ⊢ iprop((mAny c (RC 0 k) ∗ oAny c (RS0 k c)) ∗ mAny c (RC 1 k) ∗ mAny c (RC 2 k))
  iintro ⟨H, H0, H1, H2⟩
  isplitl [H H0]
  · isplitl [H0]; · iexact H0
    iexact H
  isplitl [H1]; · iexact H1
  iexact H2

omit [FloatOps F] in
theorem hands_in : (bigSep Finset.univ fun a : Fin 3 => barPay (F := F) c a)
    = iprop(((bigSep Finset.univ fun k : Chain => mAny (pt 0 k c) (RC 0 k)) ∗ bigSep Finset.univ fun k : Chain => oAny (pt 0 k c) (RK0 k c))
      ∗ (bigSep Finset.univ fun k : Chain => mAny (pt 1 k c) (RC 1 k)) ∗ bigSep Finset.univ fun k : Chain => mAny (pt 2 k c) (RC 2 k)) := by
  have e : (bigSep Finset.univ fun a : Fin 3 => barPay (F := F) c a)
      = bigSep Finset.univ fun k : Chain => bigSep Finset.univ fun j : Fin 3 => hand k j (pt j k c) :=
    bigSep_slots (fun k j a => hand (F := F) k j (par a c))
  rw [e, ← bigSep_sep', ← bigSep_sep', ← bigSep_sep']
  refine bigSep_congr fun k _ => ?_
  rw [bigSep_axis]
  show iprop((mAny (pt 0 k c) (RC 0 k) ∗ oAny (pt 0 k c) (RS0 k (pt 0 k c))) ∗ mAny (pt 1 k c) (RC 1 k) ∗ mAny (pt 2 k c) (RC 2 k)) = _
  rw [RS0_pt0]

def owAny (O : CellTallies nD τ sig Unit) : sProp 𝕄 := iprop(∃ W : Waits sig Unit, owes (c : Thread nD τ) O W)

theorem wp_shake :
    iprop(recs X K ∗ owAny c (owe₀ c) ∗ (bigSep Finset.univ fun a : Fin 3 => dutyTok ER (barCell (par a c)) 0 a)
        ∗ (bigSep Finset.univ fun a : Fin 3 => barPay (F := F) (par a c) a) ∗ atPos ER (barCell c) 0 ∅ 0 ∗ cred (tallyAt (barCell c) () 3))
      ⊢ wpc c (shake tab c) (fun _ => iprop(ow c 0 ∗ (bigSep Finset.univ fun a : Fin 3 => barPay (F := F) c a) ∗ semVal (barCell c) 0)) := by
  unfold owAny ow shake
  rw [bigSep_axis, bigSep_axis]
  simp only [semSignalWord, semWaitWord, Prog.lift, Prog.bind_op, Prog.bind_ret, Prog.pure_eq_ret]
  iintro ⟨#HR, ⟨%W, HO⟩, ⟨Ht0, Ht1, Ht2⟩, ⟨Hp0, Hp1, Hp2⟩, Hat, Hc⟩
  iapply (Rounds.wp_signal 𝒱₀ ER (cubeRd X) (c : Thread nD τ) none (dst := (par 0 c : Thread nD τ)) (κ := K (par 0 c, .inl ()))
      (d := 0) (by rw [duties_bar]; exact Finset.mem_univ _) ((amount_bar X (par 0 c) 0).trans (by decide)) ()
      (owe c 0 + tallyAt (barCell (par 2 c)) () 1 + tallyAt (barCell (par 1 c)) () 1) rfl) $$ [HO Ht0 Hp0]
  · isplitr; · iapply (recs_inv X K (par 0 c) (.inl ())); iexact HR
    isplitl [HO]; · iexact HO
    isplitl [Ht0]; · iexact Ht0
    isplitl [Hp0]; · rw [payload_bar]; iexact Hp0
    iapply (recs_reached X K (par 0 c) (.inl ())); iexact HR
  iintro HO
  iapply (Rounds.wp_signal 𝒱₀ ER (cubeRd X) (c : Thread nD τ) none (dst := (par 1 c : Thread nD τ)) (κ := K (par 1 c, .inl ()))
      (d := 1) (by rw [duties_bar]; exact Finset.mem_univ _) ((amount_bar X (par 1 c) 1).trans (by decide)) ()
      (owe c 0 + tallyAt (barCell (par 2 c)) () 1) rfl) $$ [HO Ht1 Hp1]
  · isplitr; · iapply (recs_inv X K (par 1 c) (.inl ())); iexact HR
    isplitl [HO]; · iexact HO
    isplitl [Ht1]; · iexact Ht1
    isplitl [Hp1]; · rw [payload_bar]; iexact Hp1
    iapply (recs_reached X K (par 1 c) (.inl ())); iexact HR
  iintro HO
  iapply (Rounds.wp_signal 𝒱₀ ER (cubeRd X) (c : Thread nD τ) none (dst := (par 2 c : Thread nD τ)) (κ := K (par 2 c, .inl ()))
      (d := 2) (by rw [duties_bar]; exact Finset.mem_univ _) ((amount_bar X (par 2 c) 2).trans (by decide)) ()
      (owe c 0) rfl) $$ [HO Ht2 Hp2]
  · isplitr; · iapply (recs_inv X K (par 2 c) (.inl ())); iexact HR
    isplitl [HO]; · iexact HO
    isplitl [Ht2]; · iexact Ht2
    isplitl [Hp2]; · rw [payload_bar]; iexact Hp2
    iapply (recs_reached X K (par 2 c) (.inl ())); iexact HR
  iintro HO
  ihave #HI := (recs_inv X K c (.inl ())) $$ HR
  iapply (Rounds.wp_wait_rest_token 𝒱₀ ER (cubeRd X) (c : Thread nD τ) none (κ := K (c, .inl ()))
      (wpE_semWait_eq 𝒱₀ (c : Thread nD τ) none Set.univ) (Set.mem_univ _) () (O := owe c 0) (W := W) (R := 0) (m := 0) (T := ∅)
      (by rw [expect_bar]; decide)) $$ [Hc HO Hat]
  · isplitr; · iexact HI
    isplitl [Hc]; · iexact Hc
    isplitl [HO]; · iexact HO
    isplitr
    · iapply (mayWait_owe c _ 0 1 (le_of_eq (lv_bar c ())) (by decide)); iapply (recs_lev X K); iexact HR
    iexact Hat
  iintro ⟨HO, Hat, -, Hpay⟩
  rw [wp_ret]
  ihave Hpay := (Entails.of_eq (rest_bar X c)) $$ Hpay
  imod (Rounds.cell_close ER (cubeRd X) (Set.mem_univ (K (c, .inl ()))) (fun h => h) (R := 0 + 1) (duties_later X (barCell c))) $$ [Hat] with Hz
  · isplitr; · iexact HI
    iexact Hat
  imodintro
  isplitl [HO]; · iexists _; iexact HO
  isplitl [Hpay]; · iexact Hpay
  iexact Hz

end Shake

end Cert.CubeProof

end
-- ==== Proof.Body.lean ====
/-
# The body on one device

The whole program, from the launch's resources to the finished result: the handshake, then the phases with the six chains each.
-/
module

public import proofs.«01_k».proof.Proof.Phases

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable (X : Dev nD → Con F) (K : Dev nD × KC → ℕ) (c : Dev nD)

/-- The tokens a device's body starts from. -/
def linear : sProp 𝕄 :=
  iprop(((bigSep Finset.univ fun a : Fin 3 => dutyTok ER (barCell (par a c)) 0 a) ∗ atPos ER (barCell c) 0 ∅ 0)
    ∗ (bigSep Finset.univ fun s : Stage => bigSep Finset.univ fun k : Chain => tokS (F := F) c s k)
    ∗ (bigSep Finset.univ fun s : Stage => bigSep Finset.univ fun k : Chain => tokW (F := F) c s k)
    ∗ (bigSep Finset.univ fun s : Stage => bigSep Finset.univ fun k : Chain => atPos ER (recvCell c s k) 0 ∅ 0))
/-- The credit it starts from. -/
def creds : sProp 𝕄 :=
  iprop(cred (tallyAt (barCell c) () 3) ∗ bigSep Finset.univ fun s : Stage => bigSep Finset.univ fun k : Chain => cred (tallyAt (recvCell c s k) () (N s k)))
/-- All its semaphores at zero. -/
def zeros : sProp 𝕄 :=
  iprop(semVal (barCell c) 0
    ∗ (bigSep Finset.univ fun s : Stage => bigSep Finset.univ fun k : Chain => zS (F := F) c s k)
    ∗ bigSep Finset.univ fun s : Stage => bigSep Finset.univ fun k : Chain => zR (F := F) c s k)

theorem wp_prog :
    iprop(recs X K ∗ owAny c (owe₀ c) ∗ linear c ∗ creds c ∗ xP c Finset.univ fullShare (X c) ∗ oAny c Finset.univ ∗ mAny c Finset.univ)
      ⊢ wpc c (prog tab xM oM mM cc0_scratch1 cc0_scratch2 c)
          (fun _ => iprop(owAny c 0 ∗ zeros c ∗ xP c Finset.univ fullShare (X c) ∗ oP c Finset.univ fullShare (VOut X c) ∗ mAny c Finset.univ)) := by
  have p0 := wp_seq6 (c := c) (recs X K) (fun n => ow c n) (6 * (0 : Stage).val) _ _ fun k => wp_snd0 X K c k
  have p1 := wp_seq6 (c := c) (recs X K) (fun n => ow c n) (6 * (1 : Stage).val) _ _ fun k => wp_phase1 X K c k
  have p2 := wp_seq6 (c := c) (recs X K) (fun n => ow c n) (6 * (2 : Stage).val) _ _ fun k => wp_phase2 X K c k
  have p3 := wp_seq6 (c := c) (recs X K) (fun n => ow c n) (6 * (3 : Stage).val) _ _ fun k => wp_phase3 X K c k
  have p4 := wp_seq6 (c := c) (recs X K) (fun n => ow c n) (6 * (4 : Stage).val) _ _ fun k => wp_phase4 X K c k
  have q4 := wp_seq6 (c := c) (recs X K) (fun _ => ow c 30) 0 _ _ fun k => wp_rcv4 X K c k
  have s0 := wp_seq6 (c := c) (recs X K) (fun _ => ow c 30) 0 _ _ fun k => wp_sent0 X K c k
  have s1 := wp_seq6 (c := c) (recs X K) (fun _ => ow c 30) 0 _ _ fun k => wp_sent1 X K c k
  have s3 := wp_seq6 (c := c) (recs X K) (fun _ => ow c 30) 0 _ _ fun k => wp_sent3 X K c k
  have s4 := wp_seq6 (c := c) (recs X K) (fun _ => ow c 30) 0 _ _ fun k => wp_sent4 X K c k
  simp only [bigSep_sep'] at p0 p1 p2 p3 p4 q4 s0 s1 s3 s4
  have hx := xP_all c (X c)
  have ho := oAny_all (F := F) c
  have hm := mAny_all (F := F) c
  simp only [bigSep_sep'] at hx ho
  unfold linear creds
  rw [bigSep_stage, bigSep_stage, bigSep_stage, bigSep_stage]
  unfold prog
  iintro ⟨#HR, HO, ⟨⟨HtB, HatB⟩, ⟨HtS0, HtS1, HtS2, HtS3, HtS4⟩, ⟨HtW0, HtW1, HtW2, HtW3, HtW4⟩, ⟨Ha0, Ha1, Ha2, Ha3, Ha4⟩⟩,
    ⟨HcB, ⟨Hc0, Hc1, Hc2, Hc3, Hc4⟩⟩, Hx, Ho, Hm⟩
  ihave Hx := hx.1 $$ Hx
  icases Hx with ⟨HxK, HxS⟩
  ihave Ho := ho $$ Ho
  icases Ho with ⟨HoK, HoS⟩
  ihave Hm := hm $$ Hm
  ihave Hp := (hands_out (F := F) c) $$ [HoS Hm]
  · isplitl [HoS]; · iexact HoS
    iexact Hm
  iapply (wpc_seq (wp_shake X K c)) $$ [HO HtB Hp HatB HcB]
  · isplitr; · iexact HR
    isplitl [HO]; · iexact HO
    isplitl [HtB]; · iexact HtB
    isplitl [Hp]; · iexact Hp
    isplitl [HatB]; · iexact HatB
    iexact HcB
  iintro %_ ⟨HO, Hp, HzB⟩
  ihave Hp := (Entails.of_eq (hands_in (F := F) c)) $$ Hp
  icases Hp with ⟨⟨Hm0, Ho0⟩, Hm1, Hm2⟩
  have tr (s : Stage) : (bigSep Finset.univ fun k : Chain => tokR (F := F) c s k)
      = iprop((bigSep Finset.univ fun k : Chain => atPos ER (recvCell c s k) 0 ∅ 0) ∗ bigSep Finset.univ fun k : Chain => cred (tallyAt (recvCell c s k) () (N s k))) :=
    bigSep_sep' _ _ _
  -- stage 0's copies
  iapply (wpc_seq p0) $$ [HO HtS0 HxS Hm0]
  · isplitr; · iexact HR
    isplitl [HO]; · iexact HO
    isplitl [HtS0]; · iexact HtS0
    isplitl [HxS]; · iexact HxS
    iexact Hm0
  iintro %_ ⟨HO, HcS0⟩
  iapply (wpc_seq p1) $$ [HO Ha0 Hc0 HtS1 HxK HoK Hm1]
  · isplitr; · iexact HR
    isplitl [HO]; · iexact HO
    isplitl [Ha0 Hc0]; · rw [tr]; isplitl [Ha0] <;> iassumption
    isplitl [HtS1]; · iexact HtS1
    isplitl [HxK]; · iexact HxK
    isplitl [HoK]; · iexact HoK
    iexact Hm1
  iintro %_ ⟨HO, HxK, Ho1, HmC0, Hz0, HcS1⟩
  iapply (wpc_seq p2) $$ [HO Ha1 Hc1 HtS2 Ho1 Hm2]
  · isplitr; · iexact HR
    isplitl [HO]; · iexact HO
    isplitl [Ha1 Hc1]; · rw [tr]; isplitl [Ha1] <;> iassumption
    isplitl [HtS2]; · iexact HtS2
    isplitl [Ho1]; · iexact Ho1
    iexact Hm2
  iintro %_ ⟨HO, HmC1, Hop, Hz1, HcS2⟩
  iapply (wpc_seq p3) $$ [HO HtW2 HcS2 Ha2 Hc2 HtS3 Hop]
  · isplitr; · iexact HR
    isplitl [HO]; · iexact HO
    isplitl [HtW2]; · iexact HtW2
    isplitl [HcS2]; · iexact HcS2
    isplitl [Ha2 Hc2]; · rw [tr]; isplitl [Ha2] <;> iassumption
    isplitl [HtS3]; · iexact HtS3
    iexact Hop
  iintro %_ ⟨HO, HmC2, Hz2, HzS2, Hor, HcS3⟩
  iapply (wpc_seq p4) $$ [HO Ha3 Hc3 HtS4 Hor Ho0]
  · isplitr; · iexact HR
    isplitl [HO]; · iexact HO
    isplitl [Ha3 Hc3]; · rw [tr]; isplitl [Ha3] <;> iassumption
    isplitl [HtS4]; · iexact HtS4
    isplitl [Hor]; · iexact Hor
    iexact Ho0
  iintro %_ ⟨HO, HsL, Hz3, HcS4⟩
  iapply (wpc_seq q4) $$ [HO Ha4 Hc4]
  · isplitr; · iexact HR
    isplitl [HO]; · iexact HO
    rw [tr]; isplitl [Ha4] <;> iassumption
  iintro %_ ⟨HO, HoS0, Hz4⟩
  iapply (wpc_seq s0) $$ [HO HtW0 HcS0]
  · isplitr; · iexact HR
    isplitl [HO]; · iexact HO
    isplitl [HtW0] <;> iassumption
  iintro %_ ⟨HO, HxS, HzS0⟩
  iapply (wpc_seq s1) $$ [HO HtW1 HcS1]
  · isplitr; · iexact HR
    isplitl [HO]; · iexact HO
    isplitl [HtW1] <;> iassumption
  iintro %_ ⟨HO, -, HzS1⟩
  iapply (wpc_seq s3) $$ [HO HtW3 HcS3]
  · isplitr; · iexact HR
    isplitl [HO]; · iexact HO
    isplitl [HtW3] <;> iassumption
  iintro %_ ⟨HO, HoL, HzS3⟩
  iapply (wpc_last s4) $$ [HO HtW4 HcS4]
  · isplitr; · iexact HR
    isplitl [HO]; · iexact HO
    isplitl [HtW4] <;> iassumption
  iintro %_ ⟨HO, HoR, HzS4⟩
  -- the end
  isplitl [HO]
  · unfold ow owAny; rw [owe_end]; iexact HO
  isplitl [HzB HzS0 HzS1 HzS2 HzS3 HzS4 Hz0 Hz1 Hz2 Hz3 Hz4]
  · unfold zeros
    rw [bigSep_stage, bigSep_stage]
    isplitl [HzB]; · iexact HzB
    isplitl [HzS0 HzS1 HzS2 HzS3 HzS4]
    · isplitl [HzS0]; · iexact HzS0
      isplitl [HzS1]; · iexact HzS1
      isplitl [HzS2]; · iexact HzS2
      isplitl [HzS3]; · iexact HzS3
      iexact HzS4
    · isplitl [Hz0]; · iexact Hz0
      isplitl [Hz1]; · iexact Hz1
      isplitl [Hz2]; · iexact Hz2
      isplitl [Hz3]; · iexact Hz3
      iexact Hz4
  isplitl [HxK HxS]
  · iapply hx.2
    isplitl [HxK] <;> iassumption
  isplitl [HoL HsL HoR HoS0]
  · have hl : iprop((bigSep Finset.univ fun k : Chain => oP c (RK1 k c) fullShare.left (V3 X k c))
          ∗ (bigSep Finset.univ fun k : Chain => oP c (RS1 k c) fullShare.left (V3 X k (pt 1 k c)))
          ∗ (bigSep Finset.univ fun k : Chain => oP c (RK0 k c) fullShare.right (VG X k c))
          ∗ bigSep Finset.univ fun k : Chain => oP c (RS0 k c) fullShare (VG X k (pt 0 k c))) ⊢ oP c Finset.univ fullShare (VOut X c) := by
      rw [← bigSep_sep', ← bigSep_sep', ← bigSep_sep']
      refine (bigSep_mono fun k _ => ?_).trans (oP_all X c)
      show (_ : sProp 𝕄) ⊢ _
      iintro ⟨H1, H2, H3, H4⟩
      isplitl [H1 H2 H3]
      · iapply (oP_halves c (RK0 k c) (VG X k c)).2
        isplitl [H1 H2]
        · iapply (oP_join X c k fullShare.left)
          isplitl [H1] <;> iassumption
        · iexact H3
      · iexact H4
    iapply hl
    isplitl [HoL]; · iexact HoL
    isplitl [HsL]; · iexact HsL
    isplitl [HoR] <;> iassumption
  · have hm' := mAny_all' (F := F) c
    simp only [bigSep_sep'] at hm'
    iapply hm'
    isplitl [HmC0]; · iexact HmC0
    isplitl [HmC1] <;> iassumption

end

end Cert.CubeProof

end
-- ==== Proof.Launch.lean ====
/-
# The launch

From the initial state to the run of the whole program on the eight devices: the cells and tokens are made for all
devices at once, dealt to the devices that use them, each device runs its body (`wp_prog`), and at the end every device's
result is `VOut` of the eight blocks, every semaphore at zero.
-/
module

public import proofs.«01_k».proof.Proof.Body
public import proofs.«01_k».proof.Proof.Gen.KernelIdeal.Launch
public import Idealize.ShloMosaic.Lib.Pipeline.Launch
public import Idealize.ShloMosaic.Lib.Pipeline.CollectiveSegs
public import Idealize.ShloMosaic.Lib.Pipeline.Kit

@[expose] public section

noncomputable section

namespace Cert.CubeProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The devices' blocks, as the pipeline stages them. -/
def xstg (c : Dev nD) : Con F := (win0_0.blk (0 : Fin 1)).view.read (Elt F) ((s₀ m ρ).mem ((c : Thread nD τ).loc main_arg0))

/-! ## The region's data -/

/-- What the launch's global step leaves device `c`. -/
def dealt (c : Dev nD) : sProp 𝕄 :=
  iprop((∃ K : Dev nD × KC → ℕ, (bigSep Finset.univ fun ci : Dev nD × KC => cellInv ER (cubeRd (xstg m ρ)) (K ci) (kcell ci.1 ci.2))
      ∗ bigSep Finset.univ fun ci : Dev nD × KC => reached ER (kcell ci.1 ci.2) 0) ∗ linear c)
/-- What its body starts from. -/
def start (c : Dev nD) : sProp 𝕄 := iprop((∃ K, recs (xstg m ρ) K) ∗ linear c ∗ creds c)

def Φ₀ (c : Dev nD) : sProp 𝕄 := iprop(start m ρ c ∗ mAny (F := F) c Finset.univ)
def Φ₁ (c : Dev nD) : sProp 𝕄 := iprop(zeros (F := F) c ∗ mAny (F := F) c Finset.univ)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => VOut (xstg m ρ) c
  Φ t := match t with
    | ⟨0, _⟩ => Φ₀ m ρ c
    | ⟨_ + 1, _⟩ => Φ₁ (F := F) c
  q _ := fullShare
  owed t := match t with
    | ⟨0, _⟩ => owe₀ c
    | ⟨_ + 1, _⟩ => 0

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ (F := F) c ∗ (dats m ρ 0 c).owesAt () t0_0.succ ∗ stg c cc0_stg0_0 (xstg m ρ c) ∗ stg c cc0_stg1_0 (VOut (xstg m ρ) c))

theorem sound_body (c : Dev nD) :
    bodyPre m ρ c
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2) (fun _ => bodyPost m ρ c) := by
  rw [body_eq]
  simp only [Prog.lift, Prog.bind_op, Prog.bind_ret, wp_deviceId]
  unfold bodyPre Φ₀ start
  iintro ⟨⟨⟨⟨%K, HR⟩, Hl, Hc⟩, Hm⟩, Ho, ⟨%d0, %g0, %hg0, Hx⟩, ⟨%d1, %g1, %hg1, Hout⟩⟩
  have hx : g0 = xstg m ρ c := by rw [hg0]; unfold Dat.before; rw [if_pos (fetch_0 t0_0)]; rfl
  subst hx
  unfold Dat.owesAt Pipeline.owesWithin
  icases Ho with ⟨%W, %hW, HO⟩
  rw [show (dats m ρ 0 c).owed t0_0.castSucc = owe₀ c from rfl]
  iapply (wpc_last (wp_prog (xstg m ρ) K c)) $$ [HR Hl Hc Hm HO Hx Hout]
  · isplitl [HR]; · iexact HR
    isplitl [HO]; · unfold owAny; iexists W; iexact HO
    isplitl [Hl]; · iexact Hl
    isplitl [Hc]; · iexact Hc
    isplitl [Hx]; · unfold xP; iexact Hx
    isplitl [Hout]; · unfold oAny oP; iexists g1; iexact Hout
    iexact Hm
  iintro %_ ⟨HO, Hz, Hx, Hout, Hm⟩
  unfold bodyPost Φ₁ owAny Dat.owesAt Pipeline.owesWithin
  rw [show (dats m ρ 0 c).owed t0_0.succ = 0 from rfl]
  isplitl [Hz Hm]
  · isplitl [Hz] <;> iassumption
  isplitl [HO]
  · icases HO with ⟨%W', HO⟩
    iexists W'
    isplitr; · ipureintro; exact fun _ _ => Or.inl trivial
    iexact HO
  isplitl [Hx]
  · iexists (xstg m ρ c); isplitr; · (ipureintro; rfl)
    unfold xP; iexact Hx
  iexists (VOut (xstg m ρ) c); isplitr; · (ipureintro; rfl)
  unfold oP; iexact Hout

set_option maxRecDepth 100000 in
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## The cells and tokens at launch -/

theorem ownSemFacts : Pipeline.OwnSemFacts cfg0.spec osem :=
  ⟨by rintro (⟨s, k⟩ | ⟨s, k⟩) <;> revert s k <;> decide +kernel, osem_injective, by
    rintro (⟨s, k⟩ | ⟨s, k⟩) w t <;> revert s k w t <;> decide +kernel⟩

theorem share_eq (c : Dev nD) (w : Fin cfg0.W) : (dats m ρ 0 c).share w = fullShare := by unfold Dat.share; split <;> rfl

abbrev cellOf' (ci : Dev nD × KC) : GSem nD τ sig := kcell ci.1 ci.2
theorem kcell_injective : Function.Injective cellOf' := by
  rintro ⟨c, i⟩ ⟨c', i'⟩ h
  obtain rfl : c = c' := congrArg (fun g : GSem nD τ sig => g.1.1) h
  obtain rfl : i = i' := csem_injective (congrArg Prod.snd h)
  rfl
def cubeCells : Finset (GSem nD τ sig) := Finset.univ.map ⟨cellOf', kcell_injective⟩

/-- A device's own cells' duties: its barrier's three, one of each other cell. -/
abbrev TI : Type := Fin 3 ⊕ (SK ⊕ SK)
abbrev tokOf (ci : Dev nD × TI) : GSem nD τ sig × ℕ × Fin 3 := match ci.2 with
  | .inl a => (barCell ci.1, 0, a)
  | .inr i => (kcell ci.1 (.inr i), 0, 0)
theorem tokOf_injective : Function.Injective tokOf := by
  rintro ⟨c, i | i⟩ ⟨c', i' | i'⟩ h
  · obtain rfl : c = c' := congrArg (fun g : GSem nD τ sig × ℕ × Fin 3 => g.1.1.1) h
    rw [show i = i' from congrArg (fun g : GSem nD τ sig × ℕ × Fin 3 => g.2.2) h]
  · exact absurd (congrArg (fun g : GSem nD τ sig × ℕ × Fin 3 => g.1.2) h).symm (osem_ne_bar i')
  · exact absurd (congrArg (fun g : GSem nD τ sig × ℕ × Fin 3 => g.1.2) h) (osem_ne_bar i)
  · obtain rfl : c = c' := congrArg (fun g : GSem nD τ sig × ℕ × Fin 3 => g.1.1.1) h
    rw [osem_injective (congrArg (fun g : GSem nD τ sig × ℕ × Fin 3 => g.1.2) h)]
def cubeToks : Finset (GSem nD τ sig × ℕ × Fin 3) := Finset.univ.map ⟨tokOf, tokOf_injective⟩

def u₀ : UU := (initOf (Pipeline.cells cfgs cellOf_inj) (Pipeline.launchToks cfgs cellOf_inj), initOf cubeCells cubeToks)

/-- The duty tokens of device `c`'s own cells. -/
def toks (c : Dev nD) : sProp 𝕄 := bigSep Finset.univ fun i : TI => dutyTok ER (tokOf (c, i)).1 (tokOf (c, i)).2.1 (tokOf (c, i)).2.2

/-- What the launch deals device `c` before the global step. -/
def G (c : Dev nD) : sProp 𝕄 :=
  iprop((bigSep Finset.univ fun i : KC => roundState ER (cubeRd (xstg m ρ)) (kcell c i) 0)
    ∗ ((bigSep Finset.univ fun i : KC => atPos ER (kcell c i) 0 ∅ 0) ∗ bigSep Finset.univ fun i : KC => reached ER (kcell c i) 0) ∗ toks c)

theorem fund_cube : BI.own (ER (initOf cubeCells cubeToks)) ⊢ (|==> bigSep Finset.univ (G m ρ) : sProp 𝕄) := by
  have hX (Φ : GSem nD τ sig → sProp 𝕄) : bigSep cubeCells Φ = bigSep Finset.univ fun c : Dev nD => bigSep Finset.univ fun i : KC => Φ (kcell c i) := by
    unfold cubeCells; rw [bigSep_map, bigSep_univ_prod]; rfl
  have hT : bigSep cubeToks (fun x => (dutyTok ER x.1 x.2.1 x.2.2 : sProp 𝕄)) = bigSep Finset.univ fun c : Dev nD => toks c := by
    unfold cubeToks toks; rw [bigSep_map, bigSep_univ_prod]; rfl
  iintro HX
  imod (Rounds.fund ER (cubeRd (xstg m ρ)) cubeCells cubeToks) $$ HX with ⟨Hst, Hr, Hat, Htok⟩
  imodintro
  ihave Hst' := (Entails.of_eq (hX fun g => roundState ER (cubeRd (xstg m ρ)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem unscopedSems0_eq (c : Dev nD) : (unscopedSems0 c : sProp 𝕄) = semVal (barCell c) 0 := by
  unfold unscopedSems0; rw [bigSep_eq_bigSepL_of_eq [SemLoc.reg barSem] (by decide) (by decide)]; rfl

omit [FloatOps F] in
theorem bigSep_KC (Φ : KC → sProp 𝕄) :
    bigSep Finset.univ Φ = iprop(Φ (.inl ()) ∗ (bigSep Finset.univ fun p : SK => Φ (.inr (.inl p))) ∗ bigSep Finset.univ fun p : SK => Φ (.inr (.inr p))) := by
  rw [bigSep_univ_sum, bigSep_univ_sum, bigSep_univ_eq_bigSepL [()] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun p : SK => semVal (sendCell c p.1 p.2) 0) ∗ bigSep Finset.univ fun p : SK => semVal (recvCell c p.1 p.2) 0) := by
  unfold Pipeline.ownSems0; rw [bigSep_univ_sum]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : KC => semVal (kcell c i) 0 : sProp 𝕄) := by
  rw [ownSems0_eq, unscopedSems0_eq, bigSep_KC]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : KC => iprop(∃ κ : ℕ, cellInv ER (cubeRd (xstg m ρ)) κ (kcell c i)))
          ∗ ((bigSep Finset.univ fun i : KC => atPos ER (kcell c i) 0 ∅ 0) ∗ bigSep Finset.univ fun i : KC => reached ER (kcell c i) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun i : KC => semVal (kcell c i) 0) ∗ bigSep Finset.univ fun i : KC => roundState ER (cubeRd (xstg m ρ)) (kcell c i) 0)
      ⊢ (|={Set.univ}=> bigSep Finset.univ fun i => iprop(∃ κ : ℕ, cellInv ER (cubeRd (xstg m ρ)) κ (kcell c i)) : sProp 𝕄) from by
        rw [← bigSep_sep']
        exact (bigSep_mono fun i _ => (Rounds.body_intro ER (cubeRd (xstg m ρ)) (kcell c i)).trans inv_alloc).trans (bigSep_fupd _ _)) $$ [Hv Hst] with Hinv
  · isplitl [Hv] <;> iassumption
  imodintro
  isplitl [Hinv]; · iexact Hinv
  isplitl [Hat]; · iexact Hat
  iexact Htok

/-- Device `c`'s positions. -/
def poss (c : Dev nD) : sProp 𝕄 := bigSep Finset.univ fun i : KC => atPos ER (kcell c i) 0 ∅ 0
/-- The tokens of the duties it pays. -/
def payToks (c : Dev nD) : sProp 𝕄 :=
  iprop((bigSep Finset.univ fun a : Fin 3 => dutyTok ER (barCell (par a c)) 0 a)
    ∗ (bigSep Finset.univ fun p : SK => dutyTok ER (sendCell c p.1 p.2) 0 0) ∗ bigSep Finset.univ fun p : SK => dutyTok ER (recvCell (dst p.1 p.2 c) p.1 p.2) 0 0)

omit [FloatOps F] in
theorem linear_intro (c : Dev nD) : iprop(poss (F := F) c ∗ payToks c) ⊢ linear c := by
  unfold poss payToks linear tokS tokW
  simp only [bigSep_sep']
  rw [bigSep_KC, bigSep_sk, bigSep_sk, bigSep_sk, bigSep_sk]
  iintro ⟨⟨HB, HS, HV⟩, HtB, HtS, HtV⟩
  isplitl [HB HtB]
  · isplitl [HtB]; · iexact HtB
    iexact HB
  isplitl [HtS HtV]
  · isplitl [HtS]; · iexact HtS
    iexact HtV
  isplitl [HS]; · iexact HS
  iexact HV

omit [FloatOps F] in
/-- The tokens dealt to the devices that pay them. -/
theorem toks_around : (bigSep Finset.univ fun c : Dev nD => (toks c : sProp 𝕄)) ⊢ bigSep Finset.univ fun c : Dev nD => payToks c := by
  have e (c : Dev nD) : (toks c : sProp 𝕄) = iprop((bigSep Finset.univ fun a : Fin 3 => dutyTok ER (barCell c) 0 a)
      ∗ (bigSep Finset.univ fun p : SK => dutyTok ER (sendCell c p.1 p.2) 0 0) ∗ bigSep Finset.univ fun p : SK => dutyTok ER (recvCell c p.1 p.2) 0 0) := by
    unfold toks; rw [bigSep_univ_sum, bigSep_univ_sum]; rfl
  have hb : (bigSep Finset.univ fun c : Dev nD => bigSep Finset.univ fun a : Fin 3 => (dutyTok ER (barCell c) 0 a : sProp 𝕄))
      = bigSep Finset.univ fun c : Dev nD => bigSep Finset.univ fun a : Fin 3 => dutyTok ER (barCell (par a c)) 0 a := by
    rw [bigSep_swap, bigSep_swap (fun c a => (dutyTok ER (barCell (par a c)) 0 a : sProp 𝕄))]
    exact bigSep_congr fun a _ => bigSep_univ_equiv (parE a) _
  have hr : (bigSep Finset.univ fun c : Dev nD => bigSep Finset.univ fun p : SK => (dutyTok ER (recvCell c p.1 p.2) 0 0 : sProp 𝕄))
      = bigSep Finset.univ fun c : Dev nD => bigSep Finset.univ fun p : SK => dutyTok ER (recvCell (dst p.1 p.2 c) p.1 p.2) 0 0 := by
    rw [bigSep_swap, bigSep_swap (fun c (p : SK) => (dutyTok ER (recvCell (dst p.1 p.2 c) p.1 p.2) 0 0 : sProp 𝕄))]
    exact bigSep_congr fun p _ => bigSep_univ_equiv (dstE p.1 p.2) _
  unfold payToks
  simp only [e, bigSep_sep']
  rw [hb, hr]

theorem regroup :
    (bigSep Finset.univ fun c : Dev nD => iprop((bigSep Finset.univ fun i : KC => iprop(∃ κ : ℕ, cellInv ER (cubeRd (xstg m ρ)) κ (kcell c i)))
          ∗ ((bigSep Finset.univ fun i : KC => atPos ER (kcell c i) 0 ∅ 0) ∗ bigSep Finset.univ fun i : KC => reached ER (kcell c i) 0) ∗ toks c) : sProp 𝕄)
      ⊢ bigSep Finset.univ (dealt m ρ) := by
  rw [bigSep_sep', bigSep_sep', bigSep_sep', ← bigSep_univ_prod (fun ci : Dev nD × KC => iprop(∃ κ : ℕ, cellInv ER (cubeRd (xstg m ρ)) κ (kcell ci.1 ci.2))),
    ← bigSep_univ_prod (fun ci : Dev nD × KC => (reached ER (kcell ci.1 ci.2) 0 : sProp 𝕄))]
  iintro ⟨HI, ⟨Hat, #HR⟩, Htok⟩
  ihave HK := (BI.bigSep_exists_pi Finset.univ (fun (ci : Dev nD × KC) (κ : ℕ) => (cellInv ER (cubeRd (xstg m ρ)) κ (kcell ci.1 ci.2) : sProp 𝕄))) $$ HI
  icases HK with ⟨%K, #HI⟩
  ihave Htk := (toks_around (F := F)) $$ Htok
  have hd (c : Dev nD) : iprop(((bigSep Finset.univ fun ci : Dev nD × KC => cellInv ER (cubeRd (xstg m ρ)) (K ci) (kcell ci.1 ci.2))
      ∗ bigSep Finset.univ fun ci : Dev nD × KC => reached ER (kcell ci.1 ci.2) 0) ∗ (poss (F := F) c ∗ payToks c)) ⊢ dealt m ρ c := by
    unfold dealt
    iintro ⟨Hr, Hl⟩
    isplitl [Hr]; · iexists K; iexact Hr
    iapply (linear_intro (F := F) c); iexact Hl
  have hall := bigSep_with_persistent (S := (Finset.univ : Finset (Dev nD))) fun c _ => hd c
  rw [bigSep_sep'] at hall
  iapply hall
  isplitr
  · isplitl; · iexact HI
    iexact HR
  isplitl [Hat]; · unfold poss; iexact Hat
  iexact Htk

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## The launch credit -/

theorem tally_cell (g g' : GSem nD τ sig) (n : ℕ) : tallyAt g () n g' () = if g' = g then n else 0 := by
  rw [tallyAt_apply]; by_cases h : g' = g
  · rw [if_pos ⟨h, rfl⟩, if_pos h]
  · rw [if_neg fun h' => h h'.1, if_neg h]

theorem owe_all (d : Dev nD) (g : GSem nD τ sig) :
    owe d 0 g () = ∑ p : SK, if g = recvCell (dst p.1 p.2 d) p.1 p.2 then N p.1 p.2 else 0 := by
  unfold owe
  rw [Finset.filter_true_of_mem fun _ _ => Nat.zero_le _, Finset.sum_apply, Finsupp.finset_sum_apply]
  exact Finset.sum_congr rfl fun p _ => tally_cell _ _ _

theorem cell_inj {c c' : Dev nD} {i i' : KC} (h : kcell c i = kcell c' i') : c = c' ∧ i = i' := by
  have := kcell_injective (a₁ := (c, i)) (a₂ := (c', i')) h
  exact ⟨congrArg Prod.fst this, congrArg Prod.snd this⟩

theorem owed_recv (d c : Dev nD) (s : Stage) (k : Chain) : owe₀ d (recvCell c s k) () = if d = dst s k c then N s k else 0 := by
  unfold owe₀
  have hb (a : Fin 3) : tallyAt (barCell (par a d)) () 1 (recvCell c s k) () = 0 := by
    rw [tally_cell, if_neg fun h => by cases (cell_inj (i := .inr (.inr (s, k))) (i' := .inl ()) h).2]
  simp only [Pi.add_apply, Finsupp.add_apply]
  rw [hb, hb, hb, owe_all, Finset.sum_eq_single (s, k)]
  · by_cases h : d = dst s k c
    · subst h; rw [dst_dst, if_pos rfl, if_pos rfl]; rfl
    · rw [if_neg h, if_neg fun h' => h (by
        rw [(cell_inj (i := .inr (.inr (s, k))) (i' := .inr (.inr (s, k))) h').1]; exact (dst_dst s k d).symm)]
  · intro p _ hp
    exact if_neg fun h => hp (Sum.inr.inj (Sum.inr.inj (cell_inj (i := .inr (.inr (s, k))) (i' := .inr (.inr p)) h).2)).symm
  · exact fun h => absurd (Finset.mem_univ _) h

theorem owed_bar (d c : Dev nD) : owe₀ d (barCell c) () = (if d = par 2 c then 1 else 0) + (if d = par 1 c then 1 else 0) + (if d = par 0 c then 1 else 0) := by
  unfold owe₀
  have hb (a : Fin 3) : tallyAt (barCell (par a d)) () 1 (barCell c) () = if d = par a c then 1 else 0 := by
    rw [tally_cell]
    by_cases h : d = par a c
    · subst h; rw [par_par, if_pos rfl, if_pos rfl]
    · rw [if_neg h, if_neg fun h' => h (by rw [(cell_inj (i := .inl ()) (i' := .inl ()) h').1]; exact (par_par a d).symm)]
  simp only [Pi.add_apply, Finsupp.add_apply]
  rw [hb, hb, hb, owe_all, Finset.sum_eq_zero, Nat.zero_add]
  intro p _
  rw [if_neg fun h => by cases (cell_inj (i := .inl ()) (i' := .inr (.inr p)) h).2]

theorem launch_bar (c : Dev nD) :
    tallyOn (barCell c) (launchCredit (Pipeline.owing owe₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (par 2 c) fun _ => 1, Finset.sum_ite_eq' Finset.univ (par 1 c) fun _ => 1, Finset.sum_ite_eq' Finset.univ (par 0 c) fun _ => 1,
    if_pos (Finset.mem_univ _), if_pos (Finset.mem_univ _), if_pos (Finset.mem_univ _)]

theorem launch_recv (c : Dev nD) (s : Stage) (k : Chain) :
    tallyOn (recvCell c s k) (launchCredit (Pipeline.owing owe₀) 0 (recvCell c s k)) = (tallyAt (recvCell c s k) () (N s k) : CellTallies nD τ sig Unit) := by
  unfold tallyAt; refine congrArg _ (Finsupp.ext fun u => ?_); cases u
  rw [Pipeline.launchCredit_owing, Finsupp.single_eq_same, Finset.sum_congr rfl fun d _ => owed_recv d c s k,
    Finset.sum_ite_eq' Finset.univ (dst s k c) fun _ => N s k, if_pos (Finset.mem_univ _)]

omit [FloatOps F] in
theorem creds_intro (c : Dev nD) : (Pipeline.launchCred owe₀ c : sProp 𝕄) ⊢ creds c := by
  unfold Pipeline.launchCred creds
  refine (bigSep_subset (Finset.subset_univ (Finset.univ.map ⟨csem, csem_injective⟩))).trans ?_
  rw [bigSep_map, bigSep_KC]
  show (_ : sProp 𝕄) ⊢ _
  iintro ⟨HB, -, HV⟩
  isplitl [HB]
  · iapply (Entails.of_eq (congrArg (fun t => (cred t : sProp 𝕄)) (launch_bar c))); iexact HB
  · have h : (bigSep Finset.univ fun p : SK => (cred (tallyOn (recvCell c p.1 p.2) (launchCredit (Pipeline.owing owe₀) 0 (recvCell c p.1 p.2))) : sProp 𝕄))
        = bigSep Finset.univ fun s : Stage => bigSep Finset.univ fun k : Chain => cred (tallyAt (recvCell c s k) () (N s k)) := by
      rw [bigSep_sk]
      exact bigSep_congr fun s _ => bigSep_congr fun k _ => congrArg _ (launch_recv c s k)
    iapply (Entails.of_eq h); iexact HV

/-! ## The launch theorem's conditions -/

theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ dealt m ρ c)
      ⊢ |={Set.univ}=> iprop(start m ρ c ∗ emp) := by
  iintro ⟨-, Hlev, Hcr, -, HG⟩
  ihave Hc := (creds_intro (F := F) c) $$ Hcr
  imodintro
  unfold start dealt recs
  icases HG with ⟨⟨%K, Hr⟩, Hl⟩
  isplitl
  · isplitl [Hr Hlev]
    · iexists K
      isplitl [Hr]; · iexact Hr
      iexact Hlev
    isplitl [Hl] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ mAny mP
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq, bigSep_sk, bigSep_sk]
  unfold Φ₁ zeros mAny mP zS zR
  iintro ⟨⟨HB, HS, HV⟩, Hr⟩
  isplitl [HB]; · iexact HB
  isplitl [HS HV]
  · isplitl [HS] <;> iassumption
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun i => ownSemFacts.disj i w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- For any float values, from any memory with zero counters: every weakly fair execution on the eight devices terminates,
    every device's arrays end as computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owe₀) (howed₀ := fun _ => rfl) (howedN := fun _ => rfl)
    (L := L) (lv := lv) (hL := L_of_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund_cube m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument's array ends as it was. -/
theorem finalA_x (c : Dev nD) : finalA m ρ c (0 : Fin 2) = m ((c : Thread nD τ).loc main_arg0) :=
  (dats (F := F) m ρ 0 c).arrAt_in (0 : Fin 2) rfl _

end Cert.CubeProof

end
-- ==== Proof.Value.lean ====
/-
# The value

Over exact sums the three accumulating stages add up all eight blocks, in an order that depends on the chain and the device; the
sum does not. The reference is the same sum, read at an index.
-/
module

public import proofs.«01_k».proof.Proof.Launch
public import proofs.«01_k».proof.Defs
public import proofs.«01_k».proof.Proof.Gen.ReferenceIdeal.Run
public import Idealize.ShloMosaic.Lib.Layout
public import Idealize.ShloMosaic.Lib.IdealHost
public import Idealize.ShloMosaic.Lib.Pointwise.Reduce

@[expose] public section

noncomputable section

namespace Cert.CubeProof

open Cert.KernelIdeal Cert.KernelIdeal.Gen
open Idealize.ShloMosaic
open Idealize.ShloMosaic.TcCoe
open Idealize.SL.Sem

/-! ## The arrays at the end -/

section
variable {F : FTy → Type} [FloatOps F]
variable (m : (ℓ : Loc nD τ sig) → Buf (Elt F) ℓ) (ρ : Dev nD → PrngReg)

theorem read_x (f : main_arg0.ty.Contents (Elt F)) : (win0_0.blk (0 : Fin 1)).view.read (Elt F) f = f := by
  have hz : (fun a => (win0_0.index (0 : Fin 1)) a * main_arg0.ty.shape.size a) = fun _ => 0 := funext fun a => Nat.zero_mul _
  exact Memref.read_access_unit_zero (Elt F) main_arg0 hz (fun a => by fin_cases a <;> decide) f
theorem read_out (f : main_v1.ty.Contents (Elt F)) : (win0_1.blk (0 : Fin 1)).view.read (Elt F) f = f := by
  have hz : (fun a => (win0_1.index (0 : Fin 1)) a * main_v1.ty.shape.size a) = fun _ => 0 := funext fun a => Nat.zero_mul _
  exact Memref.read_access_unit_zero (Elt F) main_v1 hz (fun a => by fin_cases a <;> decide) f

theorem xstg_eq (c : Dev nD) : xstg m ρ c = m ((c : Thread nD τ).loc main_arg0) := read_x _

theorem finalA_out (c : Dev nD) : finalA m ρ c (1 : Fin 2) = VOut (xstg m ρ) c := by
  refine (read_out _).symm.trans ?_
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

end

/-! ## The sum of the eight blocks -/

/-- The eight devices in the order in which chain `k` adds their blocks on device `c`. -/
def orbit (k : Chain) (c : Dev nD) : Fin 8 → Dev nD :=
  ![c, pt 0 k c, pt 1 k c, pt 0 k (pt 1 k c), pt 2 k c, pt 0 k (pt 2 k c), pt 1 k (pt 2 k c), pt 0 k (pt 1 k (pt 2 k c))]
theorem orbit_injective : ∀ (k : Chain) (c : Dev nD), Function.Injective (orbit k c) := by decide +kernel

theorem V3_sum (X : Dev nD → Con Ideal) (k : Chain) (c : Dev nD) (i : S1024x512.Idx) : V3 X k c i = (∑ d : Dev nD, (X d i : EReal) : EReal) := by
  have hb : Function.Bijective (orbit k c) := (Fintype.bijective_iff_injective_and_card _).mpr ⟨orbit_injective k c, rfl⟩
  rw [← hb.sum_comp fun d => (X d i : EReal), Fin.sum_univ_eight]
  show ((X c i + X (pt 0 k c) i) + (X (pt 1 k c) i + X (pt 0 k (pt 1 k c)) i))
      + ((X (pt 2 k c) i + X (pt 0 k (pt 2 k c)) i) + (X (pt 1 k (pt 2 k c)) i + X (pt 0 k (pt 1 k (pt 2 k c))) i))
    = (X c i + X (pt 0 k c) i + X (pt 1 k c) i + X (pt 0 k (pt 1 k c)) i + X (pt 2 k c) i + X (pt 0 k (pt 2 k c)) i
      + X (pt 1 k (pt 2 k c)) i + X (pt 0 k (pt 1 k (pt 2 k c))) i : EReal)
  simp only [add_assoc]

theorem VOut_sum (X : Dev nD → Con Ideal) (c : Dev nD) (i : S1024x512.Idx) : VOut X c i = (∑ d : Dev nD, (X d i : EReal) : EReal) := by
  unfold VOut VG
  simp only [V3_sum, ite_self]

/-! ## The reference -/

theorem ref_sum (x : FVec Ideal Cert.ReferenceIdeal.S8192x512 .f32) (i : S1024x512.Idx) :
    Host.reduceAdd (shapeCast _ x Cert.ReferenceIdeal.Gen.facts.toFacts₀.shapeCasts_S8192x512_S8x1024x512) (constant Cert.ReferenceIdeal.S_ .f32 0x00000000#32)
        Cert.ReferenceIdeal.Gen.facts.toFacts₀.reducesTo_S8x1024x512_S1024x512_d0 Cert.ReferenceIdeal.Gen.facts.toFacts₀.h_S_ i
      = (∑ d : Dev nD, ((Layout.block ⟨2, ![1024, 512]⟩ ⟨2, ![8192, 512]⟩ 0 8 d x : FVec Ideal S1024x512 .f32) i : EReal) : EReal) := by
  rw [Host.reduceAdd_apply, Ideal.hostReduceAdd_def, Ideal.hostReduceAdd_r3_a0]
  rw [show (constant (F := Ideal) Cert.ReferenceIdeal.S_ .f32 0x00000000#32) _ = (0 : EReal) from Ideal.ofBits_zero_f32, zero_add]
  refine Finset.sum_congr rfl fun d _ => ?_
  rw [Layout.block_apply]
  refine shapeCast_apply _ _ _ _ ?_
  rw [Shape.rowMajor_val_two, Shape.rowMajor_val_three]
  rfl

/-! ## The claims -/

section
variable {F : FTy → Type} [FloatOps F]

/-- For any float values: the argument is kept, the result is `VOut`, every semaphore ends at zero. -/
theorem run_out (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_v1) = VOut (fun d => m ((d.tc : Thread nD τ).loc main_arg0)) c
        ∧ r.2.mem ((c.tc : Thread nD τ).loc main_arg0) = m ((c.tc : Thread nD τ).loc main_arg0)) ∧ r.2.sem = fun _ => 0) :=
  (θ_run defs _ _).mono (fun _ h => ⟨fun c => ⟨((h.1 c 1).trans (finalA_out m ρ c)).trans (congrArg (VOut · c) (funext fun d => xstg_eq m ρ d)),
      (h.1 c 0).trans (finalA_x m ρ c)⟩, h.2⟩) (run_main m ρ)

/-- For any float values: the argument is kept and every semaphore ends at zero. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
        r.2.mem ((c.tc : Thread nD τ).loc main_arg0) = m ((c.tc : Thread nD τ).loc main_arg0)) ∧ r.2.sem = fun _ => 0) :=
  (θ_run defs _ _).mono (fun _ h => ⟨fun c => (h.1 c).2, h.2⟩) (run_out m ρ)
end

theorem frame_kernelIdeal : Cert.quiescent_KernelIdeal := fun m ρ _ => run_frame (F := Ideal) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic : Cert.algebraic_KernelIdeal_ReferenceIdeal := fun m g m' g' _ hm =>
  ⟨_, (θ_run Cert.KernelIdeal.defs _ _).mono (fun _ h c => ⟨((h.1 c).1).trans (funext fun i => by
      rw [VOut_sum]
      refine Eq.trans ?_ (ref_sum (m' (((0 : Dev Cert.ReferenceIdeal.nD).tc : Thread Cert.ReferenceIdeal.nD Cert.ReferenceIdeal.τ).loc Cert.ReferenceIdeal.main_arg0)) i).symm
      exact Finset.sum_congr rfl fun d _ => congrFun (hm d) i), (h.1 c).2⟩) (run_out (F := Ideal) m g),
    (θ_run Cert.ReferenceIdeal.defs _ _).mono (fun _ h => h 0) (Cert.ReferenceIdeal.Value.run (F := Ideal) m' g')⟩

end Cert.CubeProof

end
-- ==== Proof.Same.lean ====
/-
# One text, two float instances
No operation was rewritten, so the program as taken and the idealized one have the same text; the run proved for any float
values serves both.
-/
module

public import proofs.«01_k».proof.Proof.Value
public import proofs.«01_k».proof.Proof.Gen.Kernel

@[expose] public section
noncomputable section
namespace Cert.CubeProof
open Idealize.ShloMosaic Idealize.SL.Sem
variable {F : FTy → Type} [FloatOps F]

/-- The body of the program as taken and that of the idealized one have the same text. -/
theorem text_eq : Cert.Kernel.cc0_body (F := F) = Cert.KernelIdeal.cc0_body (F := F) := rfl

/-- So the two tables of bodies agree, at every label. -/
theorem bodies_eq : Cert.Kernel.defs₀ (F := F) = Cert.KernelIdeal.defs₀ (F := F) := by
  refine congrArg (Defs.onTc (nD := Cert.KernelIdeal.nD) (τ := Cert.KernelIdeal.τ) (sig := Cert.KernelIdeal.sig) (Val := Elt F) (Λ := Cert.KernelIdeal.Λ₀)) (funext fun l => funext fun a => ?_)
  match l, a with
  | 0, (t, s) =>
    change Cert.Kernel.cc0_body (F := F) (Cert.Kernel.win0_0.stage (s 0)) (Cert.Kernel.Facts₀.hstage0_0 0) (Cert.Kernel.win0_1.stage (s 1)) (Cert.Kernel.Facts₀.hstage0_1 0) (Memref.whole Cert.Kernel.cc0_scratch0) (Memref.isWhole_whole _) Cert.Kernel.cc0_scratch1 Cert.Kernel.cc0_scratch2
      = Cert.KernelIdeal.cc0_body (F := F) (Cert.KernelIdeal.win0_0.stage (s 0)) (Cert.KernelIdeal.Facts₀.hstage0_0 0) (Cert.KernelIdeal.win0_1.stage (s 1)) (Cert.KernelIdeal.Facts₀.hstage0_1 0) (Memref.whole Cert.KernelIdeal.cc0_scratch0) (Memref.isWhole_whole _) Cert.KernelIdeal.cc0_scratch1 Cert.KernelIdeal.cc0_scratch2
    rw [text_eq]

theorem defs_eq : Cert.Kernel.defs (F := F) = Cert.KernelIdeal.defs (F := F) :=
  congrArg (Pipeline.defs Cert.KernelIdeal.pcfgs) bodies_eq

/-- The program as taken is the idealized one read at the float words, so its frame is that one's run there. -/
theorem frame_kernel : Cert.quiescent_Kernel := fun m ρ _ => by
  rw [defs_eq]
  exact run_frame (F := Bits) m ρ

end Cert.CubeProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import proofs.«01_k».proof.Proof.Same
public import Idealize.ShloMosaic.Adequacy
public import Idealize.ShloMosaic.Init

@[expose] public section

noncomputable section

namespace Cert.Proof

open Idealize.ShloMosaic Idealize.SL.Sem Cert.Kernel

/-- The three frames, the change of program (the texts are the same), and the equation with the reference. -/
theorem claim : Cert.Claim :=
  ⟨Cert.Kernel.Gen.facts, Cert.KernelIdeal.Gen.facts, Cert.ReferenceIdeal.Gen.facts,
    CubeProof.frame_kernel, CubeProof.frame_kernelIdeal, CubeProof.frame_reference, trivial, CubeProof.algebraic⟩

end Cert.Proof

end
